-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S2x128x8192 : Shape := ⟨3, ![2, 128, 8192]⟩
abbrev S2 : Shape := ⟨1, ![2]⟩
abbrev S_ : Shape := ⟨0, ![]⟩
abbrev S5x8x128 : Shape := ⟨3, ![5, 8, 128]⟩
abbrev S5 : Shape := ⟨1, ![5]⟩
abbrev S128x128 : Shape := ⟨2, ![128, 128]⟩
abbrev S1x128x8192 : Shape := ⟨3, ![1, 128, 8192]⟩
abbrev S1 : Shape := ⟨1, ![1]⟩
abbrev S1x1x1 : Shape := ⟨3, ![1, 1, 1]⟩
abbrev S8x128 : Shape := ⟨2, ![8, 128]⟩
abbrev S1x8x128 : Shape := ⟨3, ![1, 8, 128]⟩

abbrev nBuf : Space → Nat
  | .hbm => 3
  | .vmem => 8
  | .smem => 0
  | _ => 0

abbrev bufTy : (tb : Table) → Fin (tcTables nBuf tb) → BufTy
  | .hbm, ⟨0, _⟩ => ⟨S4096x128, .bf16⟩
  | .hbm, ⟨1, _⟩ => ⟨S128x8192, .bf16⟩
  | .hbm, ⟨2, _⟩ => ⟨S128x8192, .f32⟩
  | .local _ .vmem, ⟨0, _⟩ => ⟨S4096x128, .bf16⟩
  | .local _ .vmem, ⟨1, _⟩ => ⟨S128x8192, .bf16⟩
  | .local _ .vmem, ⟨2, _⟩ => ⟨S128x8192, .f32⟩
  | .local _ .vmem, ⟨3, _⟩ => ⟨S128x8192, .bf16⟩
  | .local _ .vmem, ⟨4, _⟩ => ⟨S2x128x8192, .bf16⟩
  | .local _ .vmem, ⟨5, _⟩ => ⟨S2x128x8192, .bf16⟩
  | .local _ .vmem, ⟨6, _⟩ => ⟨S5x8x128, .f32⟩
  | .local _ .vmem, ⟨7, _⟩ => ⟨S5x8x128, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => true
  | ⟨1, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 2 17 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch6 : Ref sig .tc := ⟨.vmem, 6, rfl⟩
abbrev cc0_scratch7 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_22 : BitVec 32 := 1#32
  let v35 : BitVec 32 := Scalar.subi v2 c1_i32_22
  let c32_i32_23 : BitVec 32 := 32#32
  let c0_i32_24 : BitVec 32 := 0#32
  let v36 : BitVec 1 := Scalar.cmpi .eq c32_i32_23 c0_i32_24
  let c1_i32_25 : BitVec 32 := 1#32
  let v37 : BitVec 32 := Scalar.select v36 c1_i32_25 c32_i32_23
  let v38 : BitVec 32 := Scalar.remsi v35 v37
  let c0_i32_27 : BitVec 32 := 0#32
  let v40 : BitVec 1 := Scalar.cmpi .slt v38 c0_i32_27
  let c0_i32_28 : BitVec 32 := 0#32
  let v41 : BitVec 1 := Scalar.cmpi .slt v37 c0_i32_28
  let v42 : BitVec 1 := Scalar.xori v40 v41
  let c0_i32_26 : BitVec 32 := 0#32
  let v39 : BitVec 1 := Scalar.cmpi .ne v38 c0_i32_26
  let v43 : BitVec 1 := Scalar.andi v42 v39
  let v44 : BitVec 32 := Scalar.addi v38 v37
  let v45 : BitVec 32 := Scalar.select v43 v44 v38
  let c128_i32 : BitVec 32 := 128#32
  let v46 : BitVec 32 := Scalar.muli v45 c128_i32
  let v47 : Index := Scalar.indexCast v46
  let c0_29 : Index := 0#32
  ![v47.toNat, 0]
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_39 : BitVec 32 := 1#32
  let v56 : BitVec 32 := Scalar.muli v24 c1_i32_39
  let v57 : BitVec 32 := Scalar.addi c0_i32_40 v56
  v57.toNat
def k0_off2 (d0 : Dev nD) (c0_i32_46 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_45 : BitVec 32 := 2#32
  let v66 : BitVec 32 := Scalar.subi v2 c2_i32_45
  let v67 : BitVec 32 := Scalar.subi v66 c0_i32_46
  let c32_i32_47 : BitVec 32 := 32#32
  let c0_i32_48 : BitVec 32 := 0#32
  let v68 : BitVec 1 := Scalar.cmpi .eq c32_i32_47 c0_i32_48
  let c1_i32_49 : BitVec 32 := 1#32
  let v69 : BitVec 32 := Scalar.select v68 c1_i32_49 c32_i32_47
  let v70 : BitVec 32 := Scalar.remsi v67 v69
  let c0_i32_51 : BitVec 32 := 0#32
  let v72 : BitVec 1 := Scalar.cmpi .slt v70 c0_i32_51
  let c0_i32_52 : BitVec 32 := 0#32
  let v73 : BitVec 1 := Scalar.cmpi .slt v69 c0_i32_52
  let v74 : BitVec 1 := Scalar.xori v72 v73
  let c0_i32_50 : BitVec 32 := 0#32
  let v71 : BitVec 1 := Scalar.cmpi .ne v70 c0_i32_50
  let v75 : BitVec 1 := Scalar.andi v74 v71
  let v76 : BitVec 32 := Scalar.addi v70 v69
  let v77 : BitVec 32 := Scalar.select v75 v76 v70
  let c128_i32_53 : BitVec 32 := 128#32
  let v78 : BitVec 32 := Scalar.muli v77 c128_i32_53
  let v79 : Index := Scalar.indexCast v78
  let c0_54 : Index := 0#32
  ![v79.toNat, 0]
def k0_dev4 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_83 : BitVec 32 := 1#32
  let v106 : BitVec 32 := Scalar.muli v13 c1_i32_83
  let v107 : BitVec 32 := Scalar.addi c0_i32_84 v106
  v107.toNat
def k0_dev5 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_89 : BitVec 32 := 1#32
  let v108 : BitVec 32 := Scalar.muli v24 c1_i32_89
  let v109 : BitVec 32 := Scalar.addi c0_i32_90 v108
  v109.toNat
def k0_dev6 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_134 : BitVec 32 := 1#32
  let v158 : BitVec 32 := Scalar.muli v13 c1_i32_134
  let v159 : BitVec 32 := Scalar.addi c0_i32_135 v158
  v159.toNat
def k0_dev7 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_142 : BitVec 32 := 1#32
  let v160 : BitVec 32 := Scalar.muli v24 c1_i32_142
  let v161 : BitVec 32 := Scalar.addi c0_i32_143 v160
  v161.toNat
def k0_dev8 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_187 : BitVec 32 := 1#32
  let v210 : BitVec 32 := Scalar.muli v13 c1_i32_187
  let v211 : BitVec 32 := Scalar.addi c0_i32_188 v210
  v211.toNat
def k0_dev9 (d0 : Dev nD) : Nat :=
  let c0_i32_196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_195 : BitVec 32 := 1#32
  let v212 : BitVec 32 := Scalar.muli v24 c1_i32_195
  let v213 : BitVec 32 := Scalar.addi c0_i32_196 v212
  v213.toNat
def k0_dev10 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_239 : BitVec 32 := 1#32
  let v262 : BitVec 32 := Scalar.muli v13 c1_i32_239
  let v263 : BitVec 32 := Scalar.addi c0_i32_240 v262
  v263.toNat
def k0_dev11 (d0 : Dev nD) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_247 : BitVec 32 := 1#32
  let v264 : BitVec 32 := Scalar.muli v24 c1_i32_247
  let v265 : BitVec 32 := Scalar.addi c0_i32_248 v264
  v265.toNat
def k0_dev12 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_291 : BitVec 32 := 1#32
  let v314 : BitVec 32 := Scalar.muli v13 c1_i32_291
  let v315 : BitVec 32 := Scalar.addi c0_i32_292 v314
  v315.toNat
def k0_dev13 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_299 : BitVec 32 := 1#32
  let v316 : BitVec 32 := Scalar.muli v24 c1_i32_299
  let v317 : BitVec 32 := Scalar.addi c0_i32_300 v316
  v317.toNat
def k0_dev14 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_343 : BitVec 32 := 1#32
  let v366 : BitVec 32 := Scalar.muli v13 c1_i32_343
  let v367 : BitVec 32 := Scalar.addi c0_i32_344 v366
  v367.toNat
def k0_dev15 (d0 : Dev nD) : Nat :=
  let c0_i32_352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_351 : BitVec 32 := 1#32
  let v368 : BitVec 32 := Scalar.muli v24 c1_i32_351
  let v369 : BitVec 32 := Scalar.addi c0_i32_352 v368
  v369.toNat
def k0_dev16 (d0 : Dev nD) : Nat :=
  let c0_i32_396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_395 : BitVec 32 := 1#32
  let v418 : BitVec 32 := Scalar.muli v13 c1_i32_395
  let v419 : BitVec 32 := Scalar.addi c0_i32_396 v418
  v419.toNat
def k0_dev17 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_403 : BitVec 32 := 1#32
  let v420 : BitVec 32 := Scalar.muli v24 c1_i32_403
  let v421 : BitVec 32 := Scalar.addi c0_i32_404 v420
  v421.toNat
def k0_dev18 (d0 : Dev nD) : Nat :=
  let c0_i32_448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_447 : BitVec 32 := 1#32
  let v470 : BitVec 32 := Scalar.muli v13 c1_i32_447
  let v471 : BitVec 32 := Scalar.addi c0_i32_448 v470
  v471.toNat
def k0_dev19 (d0 : Dev nD) : Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_455 : BitVec 32 := 1#32
  let v472 : BitVec 32 := Scalar.muli v24 c1_i32_455
  let v473 : BitVec 32 := Scalar.addi c0_i32_456 v472
  v473.toNat
def k0_dev20 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_499 : BitVec 32 := 1#32
  let v522 : BitVec 32 := Scalar.muli v13 c1_i32_499
  let v523 : BitVec 32 := Scalar.addi c0_i32_500 v522
  v523.toNat
def k0_dev21 (d0 : Dev nD) : Nat :=
  let c0_i32_508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_507 : BitVec 32 := 1#32
  let v524 : BitVec 32 := Scalar.muli v24 c1_i32_507
  let v525 : BitVec 32 := Scalar.addi c0_i32_508 v524
  v525.toNat
def k0_dev22 (d0 : Dev nD) : Nat :=
  let c0_i32_552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_551 : BitVec 32 := 1#32
  let v574 : BitVec 32 := Scalar.muli v13 c1_i32_551
  let v575 : BitVec 32 := Scalar.addi c0_i32_552 v574
  v575.toNat
def k0_dev23 (d0 : Dev nD) : Nat :=
  let c0_i32_560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_559 : BitVec 32 := 1#32
  let v576 : BitVec 32 := Scalar.muli v24 c1_i32_559
  let v577 : BitVec 32 := Scalar.addi c0_i32_560 v576
  v577.toNat
def k0_dev24 (d0 : Dev nD) : Nat :=
  let c0_i32_604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_603 : BitVec 32 := 1#32
  let v626 : BitVec 32 := Scalar.muli v13 c1_i32_603
  let v627 : BitVec 32 := Scalar.addi c0_i32_604 v626
  v627.toNat
def k0_dev25 (d0 : Dev nD) : Nat :=
  let c0_i32_612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_611 : BitVec 32 := 1#32
  let v628 : BitVec 32 := Scalar.muli v24 c1_i32_611
  let v629 : BitVec 32 := Scalar.addi c0_i32_612 v628
  v629.toNat
def k0_dev26 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_655 : BitVec 32 := 1#32
  let v678 : BitVec 32 := Scalar.muli v13 c1_i32_655
  let v679 : BitVec 32 := Scalar.addi c0_i32_656 v678
  v679.toNat
def k0_dev27 (d0 : Dev nD) : Nat :=
  let c0_i32_664 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_663 : BitVec 32 := 1#32
  let v680 : BitVec 32 := Scalar.muli v24 c1_i32_663
  let v681 : BitVec 32 := Scalar.addi c0_i32_664 v680
  v681.toNat
def k0_dev28 (d0 : Dev nD) : Nat :=
  let c0_i32_708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_707 : BitVec 32 := 1#32
  let v730 : BitVec 32 := Scalar.muli v13 c1_i32_707
  let v731 : BitVec 32 := Scalar.addi c0_i32_708 v730
  v731.toNat
def k0_dev29 (d0 : Dev nD) : Nat :=
  let c0_i32_716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_715 : BitVec 32 := 1#32
  let v732 : BitVec 32 := Scalar.muli v24 c1_i32_715
  let v733 : BitVec 32 := Scalar.addi c0_i32_716 v732
  v733.toNat
def k0_dev30 (d0 : Dev nD) : Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_759 : BitVec 32 := 1#32
  let v782 : BitVec 32 := Scalar.muli v13 c1_i32_759
  let v783 : BitVec 32 := Scalar.addi c0_i32_760 v782
  v783.toNat
def k0_dev31 (d0 : Dev nD) : Nat :=
  let c0_i32_768 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_767 : BitVec 32 := 1#32
  let v784 : BitVec 32 := Scalar.muli v24 c1_i32_767
  let v785 : BitVec 32 := Scalar.addi c0_i32_768 v784
  v785.toNat
def k0_dev32 (d0 : Dev nD) : Nat :=
  let c0_i32_812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_811 : BitVec 32 := 1#32
  let v834 : BitVec 32 := Scalar.muli v13 c1_i32_811
  let v835 : BitVec 32 := Scalar.addi c0_i32_812 v834
  v835.toNat
def k0_dev33 (d0 : Dev nD) : Nat :=
  let c0_i32_820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_819 : BitVec 32 := 1#32
  let v836 : BitVec 32 := Scalar.muli v24 c1_i32_819
  let v837 : BitVec 32 := Scalar.addi c0_i32_820 v836
  v837.toNat
def k0_dev34 (d0 : Dev nD) : Nat :=
  let c0_i32_864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_863 : BitVec 32 := 1#32
  let v886 : BitVec 32 := Scalar.muli v13 c1_i32_863
  let v887 : BitVec 32 := Scalar.addi c0_i32_864 v886
  v887.toNat
def k0_dev35 (d0 : Dev nD) : Nat :=
  let c0_i32_872 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_871 : BitVec 32 := 1#32
  let v888 : BitVec 32 := Scalar.muli v24 c1_i32_871
  let v889 : BitVec 32 := Scalar.addi c0_i32_872 v888
  v889.toNat
def k0_dev36 (d0 : Dev nD) : Nat :=
  let c0_i32_916 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_915 : BitVec 32 := 1#32
  let v938 : BitVec 32 := Scalar.muli v13 c1_i32_915
  let v939 : BitVec 32 := Scalar.addi c0_i32_916 v938
  v939.toNat
def k0_dev37 (d0 : Dev nD) : Nat :=
  let c0_i32_924 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_923 : BitVec 32 := 1#32
  let v940 : BitVec 32 := Scalar.muli v24 c1_i32_923
  let v941 : BitVec 32 := Scalar.addi c0_i32_924 v940
  v941.toNat
def k0_dev38 (d0 : Dev nD) : Nat :=
  let c0_i32_968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_967 : BitVec 32 := 1#32
  let v990 : BitVec 32 := Scalar.muli v13 c1_i32_967
  let v991 : BitVec 32 := Scalar.addi c0_i32_968 v990
  v991.toNat
def k0_dev39 (d0 : Dev nD) : Nat :=
  let c0_i32_976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_975 : BitVec 32 := 1#32
  let v992 : BitVec 32 := Scalar.muli v24 c1_i32_975
  let v993 : BitVec 32 := Scalar.addi c0_i32_976 v992
  v993.toNat
def k0_dev40 (d0 : Dev nD) : Nat :=
  let c0_i32_1020 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1019 : BitVec 32 := 1#32
  let v1042 : BitVec 32 := Scalar.muli v13 c1_i32_1019
  let v1043 : BitVec 32 := Scalar.addi c0_i32_1020 v1042
  v1043.toNat
def k0_dev41 (d0 : Dev nD) : Nat :=
  let c0_i32_1028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1027 : BitVec 32 := 1#32
  let v1044 : BitVec 32 := Scalar.muli v24 c1_i32_1027
  let v1045 : BitVec 32 := Scalar.addi c0_i32_1028 v1044
  v1045.toNat
def k0_dev42 (d0 : Dev nD) : Nat :=
  let c0_i32_1072 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1071 : BitVec 32 := 1#32
  let v1094 : BitVec 32 := Scalar.muli v13 c1_i32_1071
  let v1095 : BitVec 32 := Scalar.addi c0_i32_1072 v1094
  v1095.toNat
def k0_dev43 (d0 : Dev nD) : Nat :=
  let c0_i32_1080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1079 : BitVec 32 := 1#32
  let v1096 : BitVec 32 := Scalar.muli v24 c1_i32_1079
  let v1097 : BitVec 32 := Scalar.addi c0_i32_1080 v1096
  v1097.toNat
def k0_dev44 (d0 : Dev nD) : Nat :=
  let c0_i32_1124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1123 : BitVec 32 := 1#32
  let v1146 : BitVec 32 := Scalar.muli v13 c1_i32_1123
  let v1147 : BitVec 32 := Scalar.addi c0_i32_1124 v1146
  v1147.toNat
def k0_dev45 (d0 : Dev nD) : Nat :=
  let c0_i32_1132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1131 : BitVec 32 := 1#32
  let v1148 : BitVec 32 := Scalar.muli v24 c1_i32_1131
  let v1149 : BitVec 32 := Scalar.addi c0_i32_1132 v1148
  v1149.toNat
def k0_dev46 (d0 : Dev nD) : Nat :=
  let c0_i32_1176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1175 : BitVec 32 := 1#32
  let v1198 : BitVec 32 := Scalar.muli v13 c1_i32_1175
  let v1199 : BitVec 32 := Scalar.addi c0_i32_1176 v1198
  v1199.toNat
def k0_dev47 (d0 : Dev nD) : Nat :=
  let c0_i32_1184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1183 : BitVec 32 := 1#32
  let v1200 : BitVec 32 := Scalar.muli v24 c1_i32_1183
  let v1201 : BitVec 32 := Scalar.addi c0_i32_1184 v1200
  v1201.toNat
def k0_dev48 (d0 : Dev nD) : Nat :=
  let c0_i32_1228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1227 : BitVec 32 := 1#32
  let v1250 : BitVec 32 := Scalar.muli v13 c1_i32_1227
  let v1251 : BitVec 32 := Scalar.addi c0_i32_1228 v1250
  v1251.toNat
def k0_dev49 (d0 : Dev nD) : Nat :=
  let c0_i32_1236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1235 : BitVec 32 := 1#32
  let v1252 : BitVec 32 := Scalar.muli v24 c1_i32_1235
  let v1253 : BitVec 32 := Scalar.addi c0_i32_1236 v1252
  v1253.toNat
def k0_dev50 (d0 : Dev nD) : Nat :=
  let c0_i32_1280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1279 : BitVec 32 := 1#32
  let v1302 : BitVec 32 := Scalar.muli v13 c1_i32_1279
  let v1303 : BitVec 32 := Scalar.addi c0_i32_1280 v1302
  v1303.toNat
def k0_dev51 (d0 : Dev nD) : Nat :=
  let c0_i32_1288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1287 : BitVec 32 := 1#32
  let v1304 : BitVec 32 := Scalar.muli v24 c1_i32_1287
  let v1305 : BitVec 32 := Scalar.addi c0_i32_1288 v1304
  v1305.toNat
def k0_dev52 (d0 : Dev nD) : Nat :=
  let c0_i32_1332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1331 : BitVec 32 := 1#32
  let v1354 : BitVec 32 := Scalar.muli v13 c1_i32_1331
  let v1355 : BitVec 32 := Scalar.addi c0_i32_1332 v1354
  v1355.toNat
def k0_dev53 (d0 : Dev nD) : Nat :=
  let c0_i32_1340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1339 : BitVec 32 := 1#32
  let v1356 : BitVec 32 := Scalar.muli v24 c1_i32_1339
  let v1357 : BitVec 32 := Scalar.addi c0_i32_1340 v1356
  v1357.toNat
def k0_dev54 (d0 : Dev nD) : Nat :=
  let c0_i32_1384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1383 : BitVec 32 := 1#32
  let v1406 : BitVec 32 := Scalar.muli v13 c1_i32_1383
  let v1407 : BitVec 32 := Scalar.addi c0_i32_1384 v1406
  v1407.toNat
def k0_dev55 (d0 : Dev nD) : Nat :=
  let c0_i32_1392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1391 : BitVec 32 := 1#32
  let v1408 : BitVec 32 := Scalar.muli v24 c1_i32_1391
  let v1409 : BitVec 32 := Scalar.addi c0_i32_1392 v1408
  v1409.toNat
def k0_dev56 (d0 : Dev nD) : Nat :=
  let c0_i32_1436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1435 : BitVec 32 := 1#32
  let v1458 : BitVec 32 := Scalar.muli v13 c1_i32_1435
  let v1459 : BitVec 32 := Scalar.addi c0_i32_1436 v1458
  v1459.toNat
def k0_dev57 (d0 : Dev nD) : Nat :=
  let c0_i32_1444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1443 : BitVec 32 := 1#32
  let v1460 : BitVec 32 := Scalar.muli v24 c1_i32_1443
  let v1461 : BitVec 32 := Scalar.addi c0_i32_1444 v1460
  v1461.toNat
def k0_dev58 (d0 : Dev nD) : Nat :=
  let c0_i32_1488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1487 : BitVec 32 := 1#32
  let v1510 : BitVec 32 := Scalar.muli v13 c1_i32_1487
  let v1511 : BitVec 32 := Scalar.addi c0_i32_1488 v1510
  v1511.toNat
def k0_dev59 (d0 : Dev nD) : Nat :=
  let c0_i32_1496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1495 : BitVec 32 := 1#32
  let v1512 : BitVec 32 := Scalar.muli v24 c1_i32_1495
  let v1513 : BitVec 32 := Scalar.addi c0_i32_1496 v1512
  v1513.toNat
def k0_dev60 (d0 : Dev nD) : Nat :=
  let c0_i32_1540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1539 : BitVec 32 := 1#32
  let v1562 : BitVec 32 := Scalar.muli v13 c1_i32_1539
  let v1563 : BitVec 32 := Scalar.addi c0_i32_1540 v1562
  v1563.toNat
def k0_dev61 (d0 : Dev nD) : Nat :=
  let c0_i32_1548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1547 : BitVec 32 := 1#32
  let v1564 : BitVec 32 := Scalar.muli v24 c1_i32_1547
  let v1565 : BitVec 32 := Scalar.addi c0_i32_1548 v1564
  v1565.toNat
def k0_dev62 (d0 : Dev nD) : Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1596 : BitVec 32 := 1#32
  let v1614 : BitVec 32 := Scalar.muli v24 c1_i32_1596
  let v1615 : BitVec 32 := Scalar.addi c0_i32_1597 v1614
  v1615.toNat
def k0_dev63 (d0 : Dev nD) : Nat :=
  let c0_i32_1646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1637 : BitVec 32 := 1#32
  let v1665 : BitVec 32 := Scalar.xori v2 c1_i32_1637
  let c1_i32_1645 : BitVec 32 := 1#32
  let v1670 : BitVec 32 := Scalar.muli v1665 c1_i32_1645
  let v1671 : BitVec 32 := Scalar.addi c0_i32_1646 v1670
  v1671.toNat
def k0_dev64 (d0 : Dev nD) : Nat :=
  let c0_i32_1683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1674 : BitVec 32 := 2#32
  let v1701 : BitVec 32 := Scalar.xori v2 c2_i32_1674
  let c1_i32_1682 : BitVec 32 := 1#32
  let v1706 : BitVec 32 := Scalar.muli v1701 c1_i32_1682
  let v1707 : BitVec 32 := Scalar.addi c0_i32_1683 v1706
  v1707.toNat
def k0_dev65 (d0 : Dev nD) : Nat :=
  let c0_i32_1719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1711 : BitVec 32 := 4#32
  let v1737 : BitVec 32 := Scalar.xori v2 c4_i32_1711
  let c1_i32_1718 : BitVec 32 := 1#32
  let v1742 : BitVec 32 := Scalar.muli v1737 c1_i32_1718
  let v1743 : BitVec 32 := Scalar.addi c0_i32_1719 v1742
  v1743.toNat
def k0_dev66 (d0 : Dev nD) : Nat :=
  let c0_i32_1755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1747 : BitVec 32 := 8#32
  let v1773 : BitVec 32 := Scalar.xori v2 c8_i32_1747
  let c1_i32_1754 : BitVec 32 := 1#32
  let v1778 : BitVec 32 := Scalar.muli v1773 c1_i32_1754
  let v1779 : BitVec 32 := Scalar.addi c0_i32_1755 v1778
  v1779.toNat
def k0_dev67 (d0 : Dev nD) : Nat :=
  let c0_i32_1791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1783 : BitVec 32 := 16#32
  let v1809 : BitVec 32 := Scalar.xori v2 c16_i32_1783
  let c1_i32_1790 : BitVec 32 := 1#32
  let v1814 : BitVec 32 := Scalar.muli v1809 c1_i32_1790
  let v1815 : BitVec 32 := Scalar.addi c0_i32_1791 v1814
  v1815.toNat
abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Program.lean ====
/-
  The kernel's body, written once per kind of step.

  The printed body is one long straight line: 31 steps of the ring reduce-scatter, then five exchanges of the maximum
  along the axes of a hypercube, then the quantisation. Here it is a short program over the step number: `ringStep`,
  `ringLast`, `maxStep` and a closing store. `body_eq` states that the two are the same program.
-/
module

public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Ring

open Idealize.ShloMosaic Idealize.ShloMosaic.TcCoe Idealize.SL.Sem
open Cert.KernelIdeal.Gen

variable {F : FTy → Type} [FloatOps F]

/-- The programs of a TensorCore of this machine. -/
abbrev Pg (F : FTy → Type) : Type → Type 1 := Prog (TpuEff nD τ sig (Elt F) Λ₀ .tc)

/-! ## Devices -/

/-- The left neighbour on the ring, as the kernel computes it. -/
def left (d : Dev nD) : Dev nD := ⟨k0_dev1 d, k0_dev1_lt d⟩
/-- The right neighbour on the ring, as the kernel computes it. -/
def right (d : Dev nD) : Dev nD := ⟨k0_dev2 d, k0_dev2_lt d⟩
/-- The partner along axis `k` of the hypercube, as the kernel computes it. -/
def partner : Fin 5 → Dev nD → Dev nD
  | 0, d => ⟨k0_dev63 d, k0_dev63_lt d⟩
  | 1, d => ⟨k0_dev64 d, k0_dev64_lt d⟩
  | 2, d => ⟨k0_dev65 d, k0_dev65_lt d⟩
  | 3, d => ⟨k0_dev66 d, k0_dev66_lt d⟩
  | 4, d => ⟨k0_dev67 d, k0_dev67_lt d⟩

/-! ## Buffers and semaphores -/

/-- The device's columns of the left operand, its rows of the right operand, and its rows of the result. -/
abbrev xM : Memref sig .tc .vmem S4096x128 .bf16 := Memref.whole cc0_stg0_0
abbrev wM : Memref sig .tc .vmem S128x8192 .bf16 := Memref.whole cc0_stg1_0
abbrev oM : Memref sig .tc .vmem S128x8192 .f32 := Memref.whole cc0_stg2_0
/-- The right operand's rows kept for the products. -/
abbrev kM : Memref sig .tc .vmem S128x8192 .bf16 := Memref.whole cc0_scratch0
/-- The two slots a device sends from, and the two its left neighbour writes into. -/
abbrev sM : Memref sig .tc .vmem S2x128x8192 .bf16 := Memref.whole cc0_scratch1
abbrev cM : Memref sig .tc .vmem S2x128x8192 .bf16 := Memref.whole cc0_scratch2
/-- The slots of the exchange of the maximum: one to send from and one to receive into per axis. -/
abbrev asM : Memref sig .tc .vmem S5x8x128 .f32 := Memref.whole cc0_scratch6
abbrev arM : Memref sig .tc .vmem S5x8x128 .f32 := Memref.whole cc0_scratch7

theorem inb_slot (i : Fin 2) : ∀ a, (![i.val, 0, 0] : Fin 3 → Nat) a + S1x128x8192.size a ≤ S2x128x8192.size a := by
  revert i; decide
theorem inb_sem2 (i : Fin 2) : ∀ a, (![i.val] : Fin 1 → Nat) a + S1.size a ≤ S2.size a := by revert i; decide
theorem inb_axis (k : Fin 5) : ∀ a, (![k.val, 0, 0] : Fin 3 → Nat) a + S1x8x128.size a ≤ S5x8x128.size a := by
  revert k; decide
theorem inb_sem5 (k : Fin 5) : ∀ a, (![k.val] : Fin 1 → Nat) a + S1.size a ≤ S5.size a := by revert k; decide

/-- Slot `i` of a two-slot buffer, as a rectangle and as a matrix. -/
abbrev slotR (i : Fin 2) : Rect S2x128x8192 := Rect.unit (s := S2x128x8192) ![i.val, 0, 0] S1x128x8192.size (inb_slot i)
abbrev slotM (M : Memref sig .tc .vmem S2x128x8192 .bf16) (i : Fin 2) : Memref sig .tc .vmem S128x8192 .bf16 :=
  (M.slice (slotR i) (fun _ => rfl)).squeeze S128x8192 squeezes_S1x128x8192_S128x8192
/-- Slot `k` of a five-slot buffer, as a rectangle and as a matrix. -/
abbrev axisR (k : Fin 5) : Rect S5x8x128 := Rect.unit (s := S5x8x128) ![k.val, 0, 0] S1x8x128.size (inb_axis k)
abbrev axisM (M : Memref sig .tc .vmem S5x8x128 .f32) (k : Fin 5) : Memref sig .tc .vmem S8x128 .f32 :=
  (M.slice (axisR k) (fun _ => rfl)).squeeze S8x128 squeezes_S1x8x128_S8x128

theorem packed_slot : ∀ i : Fin 2, (slotR i).PackedRows (EltTy.packing .bf16)
  | 0 => packedbf16_S2x128x8192_S1x128x8192_0_0_0
  | 1 => packedbf16_S2x128x8192_S1x128x8192_1_0_0
theorem words_slot : ∀ i : Fin 2, (slotR i).WholeWords (EltTy.packing .bf16)
  | 0 => wordsbf16_S2x128x8192_S1x128x8192_0_0_0
  | 1 => wordsbf16_S2x128x8192_S1x128x8192_1_0_0

/-- The semaphores of the ring's sends and landings, one per slot; of the exchanges', one per axis; the barrier, and the
    credits a receiver gives for its slots. -/
abbrev sendS (i : Fin 2) : DmaSem sig := ((cc0_scratch3.slice (Rect.unit (s := S2) ![i.val] S1.size (inb_sem2 i))).squeeze S_ squeezes_S1_S_).sem
abbrev recvS (i : Fin 2) : DmaSem sig := ((cc0_scratch4.slice (Rect.unit (s := S2) ![i.val] S1.size (inb_sem2 i))).squeeze S_ squeezes_S1_S_).sem
abbrev asS (k : Fin 5) : DmaSem sig := ((cc0_scratch8.slice (Rect.unit (s := S5) ![k.val] S1.size (inb_sem5 k))).squeeze S_ squeezes_S1_S_).sem
abbrev arS (k : Fin 5) : DmaSem sig := ((cc0_scratch9.slice (Rect.unit (s := S5) ![k.val] S1.size (inb_sem5 k))).squeeze S_ squeezes_S1_S_).sem
abbrev barS : Sem sig := (SemArray.scalar (sig.barrier 0 rfl) : Sems sig S_).sem
abbrev creditS : Sem sig := (cc0_scratch5 : Sems sig S_).sem

/-! ## Rectangles of the operands -/

abbrev fullR : Rect S128x8192 := Rect.unit (s := S128x8192) ![0, 0] S128x8192.size inb_S128x8192_S128x8192_0_0
/-- The rows of the left operand that the chunk leaving first takes, and those of step `s`. -/
abbrev firstR (d : Dev nD) : Rect S4096x128 := Rect.unit (s := S4096x128) (k0_off1 d) S128x128.size (k0_off1_inb d)
abbrev stepR (d : Dev nD) (s : Fin 31) : Rect S4096x128 :=
  Rect.unit (s := S4096x128) (k0_off2 d (BitVec.ofNat 32 s.val)) S128x128.size (k0_off2_inb d s)

/-! ## The steps -/

/-- The slot of step `s`. -/
def par (s : ℕ) : Fin 2 := ⟨s % 2, Nat.mod_lt _ (by decide)⟩

/-- A maximum as it travels: one value, everywhere in an 8 × 128 tile. -/
def spread (v : F .f32) : FVec F S1x8x128 .f32 := shapeCast S1x8x128 (broadcast S8x128 v) shapeCasts_S8x128_S1x8x128

/-- Both neighbours are told that this device has entered; then it waits for both. -/
def barrierStep (d : Dev nD) : Pg F PUnit := do
  semSignalWord (left d) barS 1#32
  semSignalWord (right d) barS 1#32
  semWaitWord barS 2#32

/-- The right operand's rows are kept, and the product of the chunk leaving first is put in slot 0. -/
def openStep (d : Dev nD) : Pg F PUnit := do
  let a ← Prog.lift (.load wM fullR.toLoadRect (View.loadsAt_vmem h_S128x8192))
  let _ ← Prog.lift (.load kM fullR.toLoadRect (View.loadsAt_vmem h_S128x8192))
  Prog.lift (.store kM fullR (k0_pay2 a) Finset.univ (View.stores_vmem h_S128x8192 ((Memref.isWhole_whole _).storeExact_slice rfl _ packedbf16_S128x8192_S128x8192_0_0) (fun _ => rfl)) (.inl rfl))
  let x ← Prog.lift (.load xM (firstR d).toLoadRect (View.loadsAt_vmem h_S128x128))
  let b ← Prog.lift (.load kM fullR.toLoadRect (View.loadsAt_vmem h_S128x8192))
  let _ ← Prog.lift (.load sM (slotR 0).toLoadRect (View.loadsAt_vmem h_S1x128x8192))
  Prog.lift (.store sM (slotR 0) (k0_pay3 x b) Finset.univ (View.stores_vmem h_S1x128x8192 ((Memref.isWhole_whole _).storeExact_slice rfl _ (packed_slot 0)) (fun _ => rfl)) (.inl rfl))

/-- From step 2 on a device waits for one credit of its right neighbour before it writes there. -/
def creditWait : ℕ → Pg F PUnit
  | 0 => pure ⟨⟩
  | 1 => pure ⟨⟩
  | _ + 2 => semWaitWord creditS 1#32

/-- Slot `i` goes to the right neighbour. -/
def sendStep (d : Dev nD) (i : Fin 2) : Pg F PUnit :=
  Prog.lift (.enqueueDma (slotM sM i) (.remote (Dev.tc (right d)) (slotM cM i) (.dma (sendS i))) (.dma (recvS i))
    (((Memref.isWhole_whole _).wordExact_slice rfl _ (words_slot i)).reshape _ _)
    (((Memref.isWhole_whole _).wordExact_slice rfl _ (words_slot i)).reshape _ _) ⟨⟨rfl, Or.inl rfl⟩, trivial⟩)

/-- The transfer has left, and the left neighbour's has landed. -/
def landStep (i : Fin 2) : Pg F PUnit := do
  Prog.lift (.waitDma2 (sendS i) (slotM cM i) (slotM sM i)
    (((Memref.isWhole_whole _).wordExact_slice rfl _ (words_slot i)).reshape _ _)
    (((Memref.isWhole_whole _).wordExact_slice rfl _ (words_slot i)).reshape _ _))
  Prog.lift (.waitDma2 (recvS i) (slotM sM i) (slotM cM i)
    (((Memref.isWhole_whole _).wordExact_slice rfl _ (words_slot i)).reshape _ _)
    (((Memref.isWhole_whole _).wordExact_slice rfl _ (words_slot i)).reshape _ _))

/-- What every step does: send a slot, multiply the step's rows, wait, and read what came. -/
def exchange (d : Dev nD) (s : Fin 31) : Pg F (FVec F S128x8192 .f32 × Vec F S1x128x8192 .bf16) := do
  creditWait s.val
  sendStep d (par s.val)
  let x ← Prog.lift (.load xM (stepR d s).toLoadRect (View.loadsAt_vmem h_S128x128))
  let b ← Prog.lift (.load kM fullR.toLoadRect (View.loadsAt_vmem h_S128x8192))
  landStep (par s.val)
  let y ← Prog.lift (.load cM (slotR (par s.val)).toLoadRect (View.loadsAt_vmem h_S1x128x8192))
  pure (k0_pay4 x b, y)

/-- The sum goes into slot `i`, to be sent next. -/
def putStep (i : Fin 2) (v : FVec F S1x128x8192 .bf16) : Pg F PUnit := do
  let _ ← Prog.lift (.load sM (slotR i).toLoadRect (View.loadsAt_vmem h_S1x128x8192))
  Prog.lift (.store sM (slotR i) v Finset.univ (View.stores_vmem h_S1x128x8192 ((Memref.isWhole_whole _).storeExact_slice rfl _ (packed_slot i)) (fun _ => rfl)) (.inl rfl))

/-- The left neighbour may write the slot again; after the last two steps nobody does. -/
def freeStep (d : Dev nD) (s : ℕ) : Pg F PUnit :=
  match Nat.ble s 28 with
  | true => semSignalWord (left d) creditS 1#32
  | false => pure ⟨⟩

def ringStep (d : Dev nD) (s : Fin 31) : Pg F PUnit := do
  let r ← exchange d s
  putStep (par (s.val + 1)) (k0_pay5 r.1 r.2)
  freeStep d s.val

/-- `n` steps from step `s`, then step 30, whose sum stays. -/
def ringFrom (d : Dev nD) : (n s : ℕ) → s + n = 30 → Pg F (FVec F S128x8192 .f32 × Vec F S1x128x8192 .bf16)
  | 0, s, h => exchange d ⟨s, by omega⟩
  | n + 1, s, h => do
    ringStep d ⟨s, by omega⟩
    ringFrom d n (s + 1) (by omega)

/-- The exchange along axis `k`: what the partner sends is returned. -/
def maxStep (d : Dev nD) (k : Fin 5) (v : F .f32) : Pg F (Vec F S1x8x128 .f32) := do
  let _ ← Prog.lift (.load asM (axisR k).toLoadRect (View.loadsAt_vmem h_S1x8x128))
  Prog.lift (.store asM (axisR k) (spread v) Finset.univ (View.stores_vmem_bits_univ h_S1x8x128 rfl) (.inl rfl))
  Prog.lift (.enqueueDma (axisM asM k) (.remote (Dev.tc (partner k d)) (axisM arM k) (.dma (asS k))) (.dma (arS k))
    ((View.wordExact_bits rfl).reshape _ _) ((View.wordExact_bits rfl).reshape _ _) ⟨⟨rfl, Or.inl rfl⟩, trivial⟩)
  Prog.lift (.waitDma2 (asS k) (axisM arM k) (axisM asM k) ((View.wordExact_bits rfl).reshape _ _) ((View.wordExact_bits rfl).reshape _ _))
  Prog.lift (.waitDma2 (arS k) (axisM asM k) (axisM arM k) ((View.wordExact_bits rfl).reshape _ _) ((View.wordExact_bits rfl).reshape _ _))
  Prog.lift (.load arM (axisR k).toLoadRect (View.loadsAt_vmem h_S1x8x128))

/-- The result's rows are stored. -/
def closeStep (v : FVec F S128x8192 .f32) : Pg F PUnit := do
  let _ ← Prog.lift (.load oM fullR.toLoadRect (View.loadsAt_vmem h_S128x8192))
  Prog.lift (.store oM fullR v Finset.univ (View.stores_vmem_bits_univ h_S128x8192 rfl) (.inl rfl))

/-- The four exchanges after which the maximum is folded, the fifth, and the closing store. -/
def maxPart (d : Dev nD) (S : FVec F S128x8192 .f32) (v : F .f32) : Pg F PUnit := do
  let r0 ← maxStep d 0 v
  let r1 ← maxStep d 1 (k0_pay69 v r0)
  let r2 ← maxStep d 2 (k0_pay69 (k0_pay69 v r0) r1)
  let r3 ← maxStep d 3 (k0_pay69 (k0_pay69 (k0_pay69 v r0) r1) r2)
  let r4 ← maxStep d 4 (k0_pay69 (k0_pay69 (k0_pay69 (k0_pay69 v r0) r1) r2) r3)
  closeStep (k0_pay1 S (k0_pay69 (k0_pay69 (k0_pay69 (k0_pay69 v r0) r1) r2) r3) r4)

/-- The whole body. -/
def program : Pg F PUnit := do
  let d ← Prog.lift .deviceId
  barrierStep d
  openStep d
  let r ← ringFrom d 30 0 rfl
  maxPart d (k0_pay63 r.1 r.2) (k0_pay64 r.1 r.2)

set_option maxRecDepth 65536 in
/-- The printed body is this program. -/
theorem body_eq : bodyAt0 (F := F) t0_0 = program := by
  unfold bodyAt0
  chain_rfl

end Cert.KernelIdeal.Ring

end
-- ==== Proof.Devices.lean ====
/-
  The devices as the kernel addresses them: the ring of 32 and the five axes of the hypercube, in closed form, and the
  semaphores of the steps by number.
-/
module

public import proofs.«01_k».proof.Proof.Program

@[expose] public section

noncomputable section

namespace Cert.KernelIdeal.Ring

open Idealize.ShloMosaic Idealize.ShloMosaic.TcCoe Idealize.SL.Sem
open Cert.KernelIdeal.Gen

/-! ## The ring and the axes -/

theorem left_val : ∀ d : Dev nD, (left d).val = (d.val + 31) % 32 := by decide +kernel
theorem right_val : ∀ d : Dev nD, (right d).val = (d.val + 1) % 32 := by decide +kernel
theorem partner_val : ∀ (k : Fin 5) (d : Dev nD), (partner k d).val = d.val ^^^ 2 ^ k.val := by decide +kernel

theorem left_right (d : Dev nD) : left (right d) = d := by
  have := d.isLt; apply Fin.ext; rw [left_val, right_val]; simp only [nD] at *; omega
theorem right_left (d : Dev nD) : right (left d) = d := by
  have := d.isLt; apply Fin.ext; rw [right_val, left_val]; simp only [nD] at *; omega
theorem partner_partner (k : Fin 5) (d : Dev nD) : partner k (partner k d) = d := by
  apply Fin.ext; rw [partner_val, partner_val, Nat.xor_assoc, Nat.xor_self, Nat.xor_zero]

/-- A step to the left, to the right, and across an axis, as permutations of the devices. -/
def leftE : Dev nD ≃ Dev nD := ⟨left, right, right_left, left_right⟩
def rightE : Dev nD ≃ Dev nD := ⟨right, left, left_right, right_left⟩
def partnerE (k : Fin 5) : Dev nD ≃ Dev nD := ⟨partner k, partner k, partner_partner k, partner_partner k⟩

/-- The device `j` places to the left. -/
def back (j : ℕ) (d : Dev nD) : Dev nD := ⟨(d.val + 31 * j) % 32, Nat.mod_lt _ (by decide)⟩

theorem back_zero (d : Dev nD) : back 0 d = d := by
  have := d.isLt; apply Fin.ext; simp only [back, nD] at *; omega
theorem back_succ (j : ℕ) (d : Dev nD) : back (j + 1) d = back j (left d) := by
  apply Fin.ext; simp only [back, left_val]; omega
/-- Every device is at most 31 places to the left of every other. -/
theorem exists_back (d e : Dev nD) : ∃ j, j ≤ 31 ∧ back j d = e := by
  have hd := d.isLt; have he := e.isLt
  refine ⟨(d.val + 32 - e.val) % 32, by omega, Fin.ext ?_⟩
  simp only [back, nD] at *; omega

/-! ## The semaphores -/

theorem sendS_val : ∀ i : Fin 2, (sendS i).val = 3 + i.val := by decide
theorem recvS_val : ∀ i : Fin 2, (recvS i).val = 5 + i.val := by decide
theorem asS_val : ∀ k : Fin 5, (asS k).val = 7 + k.val := by decide
theorem arS_val : ∀ k : Fin 5, (arS k).val = 12 + k.val := by decide
theorem creditS_val : creditS.val = 0 := by decide
theorem barS_val : barS.val = 1 := by decide

end Cert.KernelIdeal.Ring

end
-- ==== Proof.Values.lean ====
/-
  What the kernel computes, device by device, as functions of the operands at launch; and what a slot reads after a store
  into it and after a transfer has landed in it.
-/
module

public import proofs.«01_k».proof.Proof.Devices

@[expose] public section

noncomputable section

namespace Cert.KernelIdeal.Ring

open Idealize.ShloMosaic Idealize.ShloMosaic.TcCoe Idealize.SL.Sem
open Cert.KernelIdeal.Gen

variable {F : FTy → Type} [FloatOps F]

/-! ## Slots -/

section Slots

variable {Val : EltTy → Type} {sp : Space} {s s' : Shape} {e : EltTy}

/-- A slot that a transfer has written reads what the transfer's source slot held. -/
theorem readAt_landing (M M' : Memref sig .tc sp s e) (r : Rect s) (hr : ∀ a, r.stride a = 1) (hq : r.shape.Squeezes s')
    (fd : M.view.ty.Contents Val) (fs : M'.view.ty.Contents Val) :
    M.view.readAt Val r.toLoadRect
        (((M.slice r hr).squeeze s' hq).view.write Val fd (((M'.slice r hr).squeeze s' hq).view.read Val fs) Finset.univ)
      = M'.view.readAt Val r.toLoadRect fs := by
  show (M.view.slice r).read Val (((M.view.slice r).reshape s' hq.numel_eq).write Val fd
      (fun x => (M'.view.slice r).read Val fs (Shape.reshapeEquiv hq.numel_eq x)) Finset.univ) = (M'.view.slice r).read Val fs
  rw [View.write_reshape_univ, View.read_write_univ]
  funext x
  exact congrArg _ (Equiv.apply_symm_apply _ x)

/-- A slot just stored into reads what was stored. -/
theorem readAt_stored (M : Memref sig .tc sp s e) (r : Rect s) (f : M.view.ty.Contents Val) (v : r.shape.Idx → Val e) :
    M.view.readAt Val r.toLoadRect ((M.access r).write Val f v Finset.univ) = v :=
  View.read_write_univ (v := M.view.slice r) f v

/-- The elements of a slot seen as a matrix are those of its rectangle. -/
theorem set_matrix (M : Memref sig .tc sp s e) (r : Rect s) (hr : ∀ a, r.stride a = 1) (hq : r.shape.Squeezes s') :
    ((M.slice r hr).squeeze s' hq).view.set = M.view.setOn r.set := by
  show ((M.view.slice r).reshape s' hq.numel_eq).set = _
  rw [View.set_reshape, View.set_slice]; rfl

end Slots

/-! ## Values -/

variable (m : (ℓ : Loc nD τ sig) → Buf (Elt F) ℓ)

/-- The step of a number, as the kernel's row offsets take it. -/
def stepIx (s : ℕ) : Fin 31 := ⟨s % 31, Nat.mod_lt _ (by decide)⟩

theorem stepIx_val (s : Fin 31) : stepIx s.val = s := Fin.ext (Nat.mod_eq_of_lt s.isLt)

/-- The operands of device `c` as they are brought in. -/
def xIn (c : Dev nD) : (cc0_stg0_0 : Ref sig .tc).ty.Contents (Elt F) :=
  (win0_0.blk (0 : Fin 1)).view.read (Elt F) (m ((c : Thread nD τ).loc main_arg0))
def wIn (c : Dev nD) : (cc0_stg1_0 : Ref sig .tc).ty.Contents (Elt F) :=
  (win0_1.blk (0 : Fin 1)).view.read (Elt F) (m ((c : Thread nD τ).loc main_arg1))

/-- The right operand's rows that device `c` keeps. -/
def kept (c : Dev nD) : FVec F S128x8192 .bf16 := k0_pay2 (wIn m c)
/-- Device `c`'s product for the chunk of step `s`. -/
def prod (s : ℕ) (c : Dev nD) : FVec F S128x8192 .f32 :=
  k0_pay4 (xM.view.readAt (Elt F) (stepR c (stepIx s)).toLoadRect (xIn m c)) (kept m c)
/-- What device `c` sends at step `s`: first its own product, then its product plus what it got. -/
def sent : ℕ → Dev nD → FVec F S1x128x8192 .bf16
  | 0, c => k0_pay3 (xM.view.readAt (Elt F) (firstR c).toLoadRect (xIn m c)) (kept m c)
  | s + 1, c => k0_pay5 (prod m s c) (sent s (left c))
/-- Device `c`'s rows of the product, the sum over all devices. -/
def rows (c : Dev nD) : FVec F S128x8192 .f32 := k0_pay63 (prod m 30 c) (sent m 30 (left c))
/-- The largest magnitude device `c` knows of after `k` exchanges. -/
def most : ℕ → Dev nD → F .f32
  | 0, c => k0_pay64 (prod m 30 c) (sent m 30 (left c))
  | k + 1, c => k0_pay69 (most k c) (spread (most k (partner ⟨k % 5, Nat.mod_lt _ (by decide)⟩ c)))
/-- Device `c`'s result. -/
def result (c : Dev nD) : FVec F S128x8192 .f32 := k0_pay1 (rows m c) (most m 4 c) (spread (most m 4 (partner 4 c)))

theorem most_succ (k : Fin 5) (c : Dev nD) :
    most m (k.val + 1) c = k0_pay69 (most m k.val c) (spread (most m k.val (partner k c))) := by
  rw [most]; congr 3; exact congrArg (partner · c) (Fin.ext (Nat.mod_eq_of_lt k.isLt))

end Cert.KernelIdeal.Ring

end
-- ==== Proof.Protocol.lean ====
/-
  The protocol: who signals and who waits on each semaphore, how much, in what order, and what each landing hands over.

  Per device there are sixteen cells.
  * `send i`, `recv i` (a slot each): round `r` is step `s = 2r + i`; the transfer of that step credits the sender's `send i`
    and the right neighbour's `recv i`. The landing hands over the slot with the sum the sender held, and what the sender
    knows of who has entered.
  * `credit`: one round of 29 units. The unit of step `j` comes from the right neighbour after it has read its slot; it says
    that the slot may be written again.
  * `bar`: one unit from each neighbour. The one from the right says that both its slots may be written.
  * `axs k`, `axr k`: one transfer each, for the exchange along axis `k`.
  A slot to be written waits in an invariant from its reader's release to its writer's take; only the fact of the release
  travels.
-/
module

public import proofs.«01_k».proof.Proof.Values
public import Idealize.ShloMosaic.Lib.Pipeline.Launch
public import Idealize.ShloMosaic.Lib.Pipeline.Kit
public import Idealize.ShloMosaic.Lib.Pipeline.TalkSites
public import Idealize.ShloMosaic.Lib.Release
public import Idealize.ShloMosaic.Lib.Tactic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Cert.KernelIdeal.Gen

variable {F : FTy → Type} [FloatOps F]

/-! ## Cells and ghost state -/

/-- The cells of one device. -/
inductive CellK : Type where
  | send (i : Fin 2) | recv (i : Fin 2) | axs (k : Fin 5) | axr (k : Fin 5) | credit | bar
  deriving DecidableEq

/-- All sixteen of them, the barrier last. -/
def cells : List CellK :=
  [.send 0, .send 1, .recv 0, .recv 1, .axs 0, .axs 1, .axs 2, .axs 3, .axs 4, .axr 0, .axr 1, .axr 2, .axr 3, .axr 4, .credit, .bar]

theorem cells_nodup : cells.Nodup := by decide
theorem mem_cells : ∀ k : CellK, k ∈ cells
  | .send i => by revert i; decide
  | .recv i => by revert i; decide
  | .axs k => by revert k; decide
  | .axr k => by revert k; decide
  | .credit => by decide
  | .bar => by decide

instance : Fintype CellK := ⟨⟨cells, cells_nodup⟩, mem_cells⟩

/-- Their semaphores. -/
def csem : CellK → SemLoc sig
  | .send i => .dma (sendS i)
  | .recv i => .dma (recvS i)
  | .axs k => .dma (asS k)
  | .axr k => .dma (arS k)
  | .credit => .reg creditS
  | .bar => .reg barS

/-- Which cell a semaphore is. -/
def role : SemLoc sig → Option CellK
  | .dma q =>
    if q.val < 3 then none
    else if h : q.val - 3 < 2 then some (.send ⟨q.val - 3, h⟩)
    else if h : q.val - 5 < 2 then some (.recv ⟨q.val - 5, h⟩)
    else if h : q.val - 7 < 5 then some (.axs ⟨q.val - 7, h⟩)
    else if h : q.val - 12 < 5 then some (.axr ⟨q.val - 12, h⟩) else none
  | .reg q => if q.val = 0 then some .credit else some .bar

theorem role_csem : ∀ k : CellK, role (csem k) = some k
  | .send i => by revert i; decide
  | .recv i => by revert i; decide
  | .axs k => by revert k; decide
  | .axr k => by revert k; decide
  | .credit => by decide
  | .bar => by decide

theorem csem_inj : Function.Injective csem := fun a b h => by
  have := congrArg role h; rw [role_csem, role_csem] at this; exact Option.some.inj this

abbrev cell (c : Dev nD) (k : CellK) : GSem nD τ sig := ((c : Thread nD τ), csem k)

/-- A slot that another device writes: the two of the ring's landings, the five of the exchanges'. -/
abbrev SlotK : Type := Dev nD × (Fin 2 ⊕ Fin 5)

abbrev UB : Type := URounds (GSem nD τ sig) ℕ × USlots SlotK
abbrev UU : Type := UR sig nD τ × UB

local notation "𝕄" => MT nD τ sig ℕ (Elt F) ℕ UU ℕ

abbrev EP : Emb (UR sig nD τ) (MT nD τ sig ℕ (Elt F) ℕ UU ℕ) := embL
def ER : Emb (URounds (GSem nD τ sig) ℕ) (MT nD τ sig ℕ (Elt F) ℕ UU ℕ) := (Emb.inl : Emb _ UB).trans embR
def ES : Emb (USlots SlotK) (MT nD τ sig ℕ (Elt F) ℕ UU ℕ) := (Emb.inr : Emb _ UB).trans embR

instance ER_landsIn : (ER (F := F)).LandsIn (upEmb : UEmb _ 𝕄) := by unfold ER; infer_instance
instance ES_landsIn : (ES (F := F)).LandsIn (upEmb : UEmb _ 𝕄) := by unfold ES; infer_instance

/-! ## What the landings hand over -/

/-- Slot `i` of the sending or of the landing buffer of device `c`, at contents `f`; and at any contents. -/
def sendPts (i : Fin 2) (c : Dev nD) (f : Buf (Elt F) (sM.view.loc (c : Thread nD τ))) : sProp 𝕄 :=
  sM.view.loc (c : Thread nD τ) ↦[(slotM sM i).view.set]{fullShare} f
def recvPts (i : Fin 2) (c : Dev nD) (f : Buf (Elt F) (cM.view.loc (c : Thread nD τ))) : sProp 𝕄 :=
  cM.view.loc (c : Thread nD τ) ↦[(slotM cM i).view.set]{fullShare} f
def axsPts (k : Fin 5) (c : Dev nD) (f : Buf (Elt F) (asM.view.loc (c : Thread nD τ))) : sProp 𝕄 :=
  asM.view.loc (c : Thread nD τ) ↦[(axisM asM k).view.set]{fullShare} f
def axrPts (k : Fin 5) (c : Dev nD) (f : Buf (Elt F) (arM.view.loc (c : Thread nD τ))) : sProp 𝕄 :=
  arM.view.loc (c : Thread nD τ) ↦[(axisM arM k).view.set]{fullShare} f

omit [FloatOps F] in
instance sendPts_storable (i c f) : BI.Storable (upEmb : UEmb _ 𝕄) (sendPts (F := F) i c f) := by unfold sendPts; infer_instance
omit [FloatOps F] in
instance recvPts_storable (i c f) : BI.Storable (upEmb : UEmb _ 𝕄) (recvPts (F := F) i c f) := by unfold recvPts; infer_instance
omit [FloatOps F] in
instance axsPts_storable (k c f) : BI.Storable (upEmb : UEmb _ 𝕄) (axsPts (F := F) k c f) := by unfold axsPts; infer_instance
omit [FloatOps F] in
instance axrPts_storable (k c f) : BI.Storable (upEmb : UEmb _ 𝕄) (axrPts (F := F) k c f) := by unfold axrPts; infer_instance

/-- What waits in the invariant of a slot that another device writes. -/
def slotOf : SlotK → sProp 𝕄
  | (c, .inl i) => iprop(∃ f, recvPts i c f)
  | (c, .inr k) => iprop(∃ f, axrPts k c f)

omit [FloatOps F] in
instance slotOf_storable : ∀ x : SlotK, BI.Storable (upEmb : UEmb _ 𝕄) (slotOf (F := F) x)
  | (c, .inl i) => by unfold slotOf; infer_instance
  | (c, .inr k) => by unfold slotOf; infer_instance

/-- Device `e` has entered the kernel: its slots of the exchanges may be written. -/
def entered (e : Dev nD) : sProp 𝕄 := bigSep Finset.univ fun k : Fin 5 => released ES (e, Sum.inr k) 1

omit [FloatOps F] in
instance entered_persistent (e) : BI.Persistent (entered (F := F) e) := by unfold entered; infer_instance
omit [FloatOps F] in
instance entered_storable (e) : BI.Storable (upEmb : UEmb _ 𝕄) (entered (F := F) e) := by unfold entered; infer_instance

/-- Device `d` and the `n` devices to its left have entered. -/
def know : ℕ → Dev nD → sProp 𝕄
  | 0, d => entered d
  | n + 1, d => iprop(entered d ∗ know n (left d))

omit [FloatOps F] in
instance know_persistent : ∀ n d, BI.Persistent (know (F := F) n d)
  | 0, d => by unfold know; infer_instance
  | n + 1, d => by have := know_persistent n (left d); unfold know; infer_instance
omit [FloatOps F] in
instance know_storable : ∀ n d, BI.Storable (upEmb : UEmb _ 𝕄) (know (F := F) n d)
  | 0, d => by unfold know; infer_instance
  | n + 1, d => by have := know_storable n (left d); unfold know; infer_instance

/-- Device `e` has read what landed at step `j`, and its slot may be written for step `j + 2`. -/
def again (j : ℕ) (e : Dev nD) : sProp 𝕄 :=
  iprop(released ES (e, Sum.inl (par j)) (j / 2 + 2) ∗ reached ER (cell e (.recv (par j))) (j / 2 + 1))

omit [FloatOps F] in
instance again_persistent (j e) : BI.Persistent (again (F := F) j e) := by unfold again; infer_instance
omit [FloatOps F] in
instance again_storable (j e) : BI.Storable (upEmb : UEmb _ 𝕄) (again (F := F) j e) := by unfold again; infer_instance

/-- The same of every step up to `j`. -/
def agains : ℕ → Dev nD → sProp 𝕄
  | 0, e => again 0 e
  | j + 1, e => iprop(again (j + 1) e ∗ agains j e)

omit [FloatOps F] in
instance agains_persistent : ∀ j e, BI.Persistent (agains (F := F) j e)
  | 0, e => by unfold agains; infer_instance
  | j + 1, e => by have := agains_persistent j e; unfold agains; infer_instance
omit [FloatOps F] in
instance agains_storable : ∀ j e, BI.Storable (upEmb : UEmb _ 𝕄) (agains (F := F) j e)
  | 0, e => by unfold agains; infer_instance
  | j + 1, e => by have := agains_storable j e; unfold agains; infer_instance

/-- Device `e`'s two slots may be written for the first time. -/
def opened (e : Dev nD) : sProp 𝕄 := iprop(released ES (e, Sum.inl 0) 1 ∗ released ES (e, Sum.inl 1) 1)

omit [FloatOps F] in
instance opened_persistent (e) : BI.Persistent (opened (F := F) e) := by unfold opened; infer_instance
omit [FloatOps F] in
instance opened_storable (e) : BI.Storable (upEmb : UEmb _ 𝕄) (opened (F := F) e) := by unfold opened; infer_instance

variable (m : (ℓ : Loc nD τ sig) → Buf (Elt F) ℓ)

/-- The landing of step `s` on device `c`: the slot holds what the left neighbour sent. -/
def landed (s : ℕ) (c : Dev nD) : sProp 𝕄 :=
  iprop((∃ f, ⌜cM.view.readAt (Elt F) (slotR (par s)).toLoadRect f = sent m s (left c)⌝ ∗ recvPts (par s) c f) ∗ know s (left c))
/-- The landing of the exchange along axis `k`. -/
def axLanded (k : Fin 5) (c : Dev nD) : sProp 𝕄 :=
  iprop(∃ f, ⌜arM.view.readAt (Elt F) (axisR k).toLoadRect f = spread (most m k.val (partner k c))⌝ ∗ axrPts k c f)

instance landed_storable (s c) : BI.Storable (upEmb : UEmb _ 𝕄) (landed m s c) := by unfold landed; infer_instance
instance axLanded_storable (k c) : BI.Storable (upEmb : UEmb _ 𝕄) (axLanded m k c) := by unfold axLanded; infer_instance

/-! ## The schedule -/

/-- The credit of one transfer of the ring, and of the exchanges. -/
def Nslot : ℕ := (slotM cM 0).view.dmaCredit
def Nax : ℕ := (axisM arM 0).view.dmaCredit

theorem Nslot_pos : 0 < Nslot := View.dmaCredit_pos _ (by decide)
theorem Nax_pos : 0 < Nax := View.dmaCredit_pos _ (by decide)

def dutiesOf : CellK → ℕ → Finset ℕ
  | .send i, r => if 2 * r + i.val < 31 then {0} else ∅
  | .recv i, r => if 2 * r + i.val < 31 then {0} else ∅
  | .axs _, r => if r = 0 then {0} else ∅
  | .axr _, r => if r = 0 then {0} else ∅
  | .credit, r => if r = 0 then Finset.range 29 else ∅
  | .bar, r => if r = 0 then {0, 1} else ∅

def unitsOf : CellK → ℕ
  | .send _ => Nslot
  | .recv _ => Nslot
  | .axs _ => Nax
  | .axr _ => Nax
  | .credit => 1
  | .bar => 1

theorem unitsOf_pos : ∀ k, 0 < unitsOf k
  | .send _ => Nslot_pos
  | .recv _ => Nslot_pos
  | .axs _ => Nax_pos
  | .axr _ => Nax_pos
  | .credit => Nat.one_pos
  | .bar => Nat.one_pos

def payOf : CellK → Dev nD → ℕ → ℕ → sProp 𝕄
  | .send i, c, _, _ => iprop(∃ f, sendPts i c f)
  | .recv i, c, r, _ => landed m (2 * r + i.val) c
  | .axs k, c, _, _ => iprop(∃ f, axsPts k c f)
  | .axr k, c, _, _ => axLanded m k c
  | .credit, c, _, j => agains j (right c)
  | .bar, c, _, j => if j = 1 then opened (right c) else iprop(emp)

instance payOf_storable (k c r j) : BI.Storable (upEmb : UEmb _ 𝕄) (payOf m k c r j) := by
  cases k <;> dsimp only [payOf] <;> first | infer_instance | (split <;> infer_instance)

def ringRd : Rounds.Schedule (GSem nD τ sig) ℕ 𝕄 where
  duties g r := (role g.2).elim ∅ (dutiesOf · r)
  unitless _ := False
  amount g _ _ := (role g.2).elim 1 unitsOf
  payload g r j := (role g.2).elim iprop(emp) (payOf m · g.1.1 r j)
  amount_pos g _ _ _ := by
    cases role g.2 with
    | none => exact Nat.one_pos
    | some k => exact unitsOf_pos k

instance ringRd_storable (g r j) : BI.Storable (upEmb : UEmb _ 𝕄) ((ringRd m).payload g r j) := by
  show BI.Storable upEmb ((role g.2).elim iprop(emp) (payOf m · g.1.1 r j))
  cases role g.2 <;> dsimp only [Option.elim] <;> infer_instance

theorem duties_cell (c k r) : (ringRd m).duties (cell c k) r = dutiesOf k r := by
  show (role (csem k)).elim ∅ (dutiesOf · r) = _; rw [role_csem]; rfl
theorem amount_cell (c k r j) : (ringRd m).amount (cell c k) r j = unitsOf k := by
  show (role (csem k)).elim 1 unitsOf = _; rw [role_csem]; rfl
theorem payload_cell (c k r j) : (ringRd m).payload (cell c k) r j = payOf m k c r j := by
  show (role (csem k)).elim iprop(emp) (payOf m · c r j) = _; rw [role_csem]; rfl
theorem expect_cell (c k r) : (ringRd m).expect (cell c k) r = (dutiesOf k r).card * unitsOf k := by
  unfold Schedule.expect Schedule.amountOf
  rw [duties_cell, Finset.sum_congr rfl fun d _ => amount_cell m c k r d, Finset.sum_const, smul_eq_mul]

/-- After a cell's last round there is nothing more to pay. -/
theorem duties_after (c : Dev nD) (k : CellK) (R : ℕ) (hR : ∀ r, R ≤ r → dutiesOf k r = ∅) :
    ∀ r, R ≤ r → (ringRd m).duties (cell c k) r = ∅ := fun r h => by rw [duties_cell]; exact hR r h

/-! ## A step's slot and round -/

theorem step_eq (s : ℕ) : 2 * (s / 2) + (par s).val = s := Nat.div_add_mod s 2

theorem par_two (s : ℕ) : par (s + 2) = par s := Fin.ext (by simp [par])

theorem dutiesOf_recv (s : ℕ) (hs : s < 31) : dutiesOf (.recv (par s)) (s / 2) = {0} := by
  rw [dutiesOf, step_eq, if_pos hs]
theorem dutiesOf_send (s : ℕ) (hs : s < 31) : dutiesOf (.send (par s)) (s / 2) = {0} := by
  rw [dutiesOf, step_eq, if_pos hs]

/-! ## What a device owes at launch, in the order in which it pays -/

/-- The payments: to both barriers, of step `s` to the right neighbour's landing cell, of step `s`'s credit to the left
    neighbour, along axis `k`. An index of a payment is also its level: what is owed at a wait lies above it. -/
def barPay (c : Dev nD) : TalkSites.Pay nD τ sig := (cell c .bar, 1, 1)
def recvPay (s : ℕ) (c : Dev nD) : TalkSites.Pay nD τ sig := (cell c (.recv (par s)), 2 * s + 2, Nslot)
def creditPay (j : ℕ) (c : Dev nD) : TalkSites.Pay nD τ sig := (cell c .credit, 2 * j + 3, 1)
def axPay (k : Fin 5) (c : Dev nD) : TalkSites.Pay nD τ sig := (cell c (.axr k), 100 + k.val, Nax)

def creditDue (s : ℕ) (d : Dev nD) : List (TalkSites.Pay nD τ sig) := if s ≤ 28 then [creditPay s (left d)] else []
/-- From axis `k` on. -/
def axDue (k : ℕ) (d : Dev nD) : List (TalkSites.Pay nD τ sig) :=
  ((List.finRange 5).drop k).map fun k => axPay k (partner k d)
/-- `n` steps from step `s`, step 30 and the exchanges. -/
def ringDue (d : Dev nD) : (n s : ℕ) → List (TalkSites.Pay nD τ sig)
  | 0, s => recvPay s (right d) :: axDue 0 d
  | n + 1, s => recvPay s (right d) :: (creditDue s d ++ ringDue d n (s + 1))
def allDue (d : Dev nD) : List (TalkSites.Pay nD τ sig) := barPay (left d) :: barPay (right d) :: ringDue d 30 0

end Cert.KernelIdeal.Ring

end
-- ==== Proof.State.lean ====
/-
  What a device holds between two steps of the ring, and the facts every device shares.
-/
module

public import proofs.«01_k».proof.Proof.Protocol

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.TalkSites (tallyL tallyL_pos tallyL_append)
open Idealize.ShloMosaic.SiteBlocks (L lv mem_L' mayWait_of)
open Cert.KernelIdeal.Gen

variable {F : FTy → Type} [FloatOps F]

local notation "𝕄" => MT nD τ sig ℕ (Elt F) ℕ UU ℕ

variable (m : (ℓ : Loc nD τ sig) → Buf (Elt F) ℓ)

omit [FloatOps F] in
/-- One member of a separating conjunction. -/
theorem bigSep_one {I : Type} [DecidableEq I] {s : Finset I} {i : I} (hi : i ∈ s) {Φ : I → sProp 𝕄} :
    (bigSep s Φ : sProp 𝕄) ⊢ Φ i := bigSep_elim hi

/-! ## What every device shares -/

/-- Every cell's invariant, that every cell has reached its first round, every slot's invariant, and the levels. -/
def shared (K : Dev nD × CellK → ℕ) (J : SlotK → ℕ) : sProp 𝕄 :=
  iprop((bigSep Finset.univ fun x : Dev nD × CellK => cellInv ER (ringRd m) (K x) (cell x.1 x.2))
    ∗ (bigSep Finset.univ fun x : Dev nD × CellK => reached ER (cell x.1 x.2) 0)
    ∗ (bigSep Finset.univ fun x : SlotK => slotInv ES (J x) x (slotOf x))
    ∗ levAts (L 200) lv)

instance shared_persistent (K J) : BI.Persistent (shared m K J) := by unfold shared; infer_instance

section Shared

variable {m} {K : Dev nD × CellK → ℕ} {J : SlotK → ℕ}

theorem shared_cell (c : Dev nD) (k : CellK) : shared m K J ⊢ cellInv ER (ringRd m) (K (c, k)) (cell c k) := by
  unfold shared
  iintro ⟨H, -, -, -⟩
  iapply (bigSep_one (Finset.mem_univ (c, k)) (Φ := fun x : Dev nD × CellK => cellInv ER (ringRd m) (K x) (cell x.1 x.2))) $$ H
theorem shared_reached (c : Dev nD) (k : CellK) : shared m K J ⊢ reached ER (cell c k) 0 := by
  unfold shared
  iintro ⟨-, H, -, -⟩
  iapply (bigSep_one (Finset.mem_univ (c, k)) (Φ := fun x : Dev nD × CellK => (reached ER (cell x.1 x.2) 0 : sProp 𝕄))) $$ H
theorem shared_slot (x : SlotK) : shared m K J ⊢ slotInv ES (J x) x (slotOf x) := by
  unfold shared
  iintro ⟨-, -, H, -⟩
  iapply (bigSep_one (Finset.mem_univ x) (Φ := fun x : SlotK => (slotInv ES (J x) x (slotOf x) : sProp 𝕄))) $$ H
theorem shared_lev : shared m K J ⊢ levAts (L 200) lv := by
  unfold shared
  iintro ⟨-, -, -, H⟩
  iexact H

end Shared

/-! ## Waits -/

/-- Every payment still owed has its level above `i` (and below the bound of all levels). -/
def Over (i : ℕ) (l : List (TalkSites.Pay nD τ sig)) : Prop := ∀ x ∈ l, x.1.1.2 = .tc ∧ i < x.2.1 ∧ x.2.1 < 200

theorem Over.mono {i i' : ℕ} {l} (h : Over i l) (hi : i' ≤ i) : Over i' l := fun x hx => ⟨(h x hx).1, by have := (h x hx).2.1; omega, (h x hx).2.2⟩
theorem Over.cons {i : ℕ} {x l} (h : Over i l) (hx : x.1.1.2 = .tc ∧ i < x.2.1 ∧ x.2.1 < 200) : Over i (x :: l) := fun y hy => by
  rcases List.mem_cons.mp hy with rfl | hy
  · exact hx
  · exact h y hy
theorem Over.append {i : ℕ} {l l'} (h : Over i l) (h' : Over i l') : Over i (l ++ l') := fun y hy =>
  (List.mem_append.mp hy).elim (h y) (h' y)

theorem over_axDue (k : ℕ) (d : Dev nD) : Over (99 + k) (axDue k d) := fun x hx => by
  obtain ⟨j, hj, rfl⟩ := List.mem_map.mp hx
  refine ⟨rfl, ?_, by show 100 + j.val < 200; omega⟩
  show 99 + k < 100 + j.val
  obtain ⟨n, hn, e⟩ := List.mem_iff_getElem.mp hj
  rw [List.getElem_drop, List.getElem_finRange] at e
  have : k + n = j.val := by rw [← e]; rfl
  omega

theorem over_creditDue (s : ℕ) (d : Dev nD) : Over (2 * s + 2) (creditDue s d) := fun x hx => by
  unfold creditDue at hx
  split at hx
  · rw [List.mem_singleton.mp hx]; exact ⟨rfl, by show 2 * s + 2 < 2 * s + 3; omega, by show 2 * s + 3 < 200; omega⟩
  · cases hx

theorem over_ringDue (d : Dev nD) : ∀ n s, s + n = 30 → Over (2 * s + 1) (ringDue d n s)
  | 0, s, h => ((over_axDue 0 d).mono (by omega)).cons ⟨rfl, by show 2 * s + 1 < 2 * s + 2; omega, by show 2 * s + 2 < 200; omega⟩
  | n + 1, s, h => (((over_creditDue s d).mono (by omega)).append ((over_ringDue d n (s + 1) (by omega)).mono (by omega))).cons
      ⟨rfl, by show 2 * s + 1 < 2 * s + 2; omega, by show 2 * s + 2 < 200; omega⟩

omit [FloatOps F] in
theorem mayWait (c : Dev nD) (sm : SemLoc sig) {i : ℕ} {l} (h : Over i l) (hi : i < 200) :
    (levAts (L 200) lv : sProp 𝕄) ⊢ MayWait (c : Thread nD τ) sm i (tallyL l) :=
  mayWait_of hi c sm _ fun g k hg => by
    obtain ⟨x, hx, rfl, rfl⟩ := tallyL_pos hg
    exact ⟨mem_L' (h x hx).1 (h x hx).2.2, (h x hx).2.1⟩

/-! ## What a device holds -/

/-- Its operands, and the rows it keeps. -/
def xPts (d : Dev nD) : sProp 𝕄 := xM.view.loc (d : Thread nD τ) ↦{fullShare} xIn m d
def kPts (d : Dev nD) : sProp 𝕄 := kM.view.loc (d : Thread nD τ) ↦{fullShare} kept m d

/-- The slot that step `s` sends from, full; and free. -/
def full (s : ℕ) (d : Dev nD) : sProp 𝕄 :=
  iprop(∃ f, ⌜sM.view.readAt (Elt F) (slotR (par s)).toLoadRect f = sent m s d⌝ ∗ sendPts (par s) d f)
def free (s : ℕ) (d : Dev nD) : sProp 𝕄 := iprop(∃ f, sendPts (par s) d f)

/-- Its place at a cell of the slot of step `s`, before that step. -/
def place (k : Fin 2 → CellK) (s : ℕ) (d : Dev nD) : sProp 𝕄 :=
  iprop(atPos ER (cell d (k (par s))) (s / 2) ∅ 0 ∗ reached ER (cell d (k (par s))) (s / 2))

/-- As the reader of the slot of step `s`, before that step: it has released it `s / 2 + 1` times; after the last steps it
    holds the slot. -/
def reader (s : ℕ) (d : Dev nD) : sProp 𝕄 :=
  if s ≤ 30 then readerAt ES (d, Sum.inl (par s)) (s / 2 + 1) else iprop(∃ f, recvPts (par s) d f)

/-- What step `s` uses up: the right to take the neighbour's slot, the two duties of the transfer, and the credit of the
    landing. -/
def spend (s : ℕ) (d : Dev nD) : sProp 𝕄 :=
  iprop(writeTok ES (right d, Sum.inl (par s)) (s / 2 + 1)
    ∗ dutyTok ER (cell d (.send (par s))) (s / 2) 0 ∗ dutyTok ER (cell (right d) (.recv (par s))) (s / 2) 0
    ∗ cred (tallyAt (cell d (.recv (par s))) (2 * s + 2) Nslot))
/-- The duty of giving the credit of step `j`, and the credit for waiting for it. -/
def giveTok (j : ℕ) (d : Dev nD) : sProp 𝕄 := dutyTok ER (cell (left d) .credit) 0 j
def getCred (j : ℕ) (d : Dev nD) : sProp 𝕄 := cred (tallyAt (cell d .credit) (2 * j + 3) 1)

/-- Its place at the credit cell once it has waited for `n` credits, with what they said. -/
def counted (n : ℕ) (d : Dev nD) : sProp 𝕄 :=
  iprop(∃ S, ⌜n + (Finset.range 29 \ S).card ≤ 29 ∧ S ⊆ Finset.range 29⌝ ∗ atPos ER (cell d .credit) 0 S n
    ∗ bigSep S fun j => agains j (right d))

/-- What it tells its left neighbour with the next credit, of the earlier steps. -/
def past : ℕ → Dev nD → sProp 𝕄
  | 0, _ => iprop(emp)
  | j + 1, d => if j ≤ 28 then agains j d else iprop(emp)

omit [FloatOps F] in
instance past_persistent : ∀ j d, BI.Persistent (past (F := F) j d)
  | 0, d => by unfold past; infer_instance
  | j + 1, d => by unfold past; split <;> infer_instance

/-- Before step `s`. -/
def ringSt (s : ℕ) (d : Dev nD) : sProp 𝕄 :=
  iprop(xPts m d ∗ kPts m d ∗ full m s d ∗ free (s + 1) d
    ∗ place .send s d ∗ place .send (s + 1) d ∗ place .recv s d ∗ place .recv (s + 1) d
    ∗ reader s d ∗ reader (s + 1) d
    ∗ (bigSep (Finset.Ico s 31) fun t => spend t d) ∗ (bigSep (Finset.Ico s 29) fun j => giveTok j d)
    ∗ (bigSep (Finset.Ico (s - 2) 29) fun j => getCred j d) ∗ counted (s - 2) d
    ∗ know s d ∗ past s d ∗ opened (right d))

omit [FloatOps F] in
theorem bigSep_Ico_head {a b : ℕ} (h : a < b) (Φ : ℕ → sProp 𝕄) :
    bigSep (Finset.Ico a b) Φ = iprop(Φ a ∗ bigSep (Finset.Ico (a + 1) b) Φ) := by
  rw [show Finset.Ico a b = insert a (Finset.Ico (a + 1) b) by
    ext x; simp only [Finset.mem_insert, Finset.mem_Ico]; omega, bigSep_insert (by simp)]; rfl

omit [FloatOps F] in
theorem place_two (k : Fin 2 → CellK) (s : ℕ) (d : Dev nD) :
    (place k (s + 2) d : sProp 𝕄) = iprop(atPos ER (cell d (k (par s))) (s / 2 + 1) ∅ 0 ∗ reached ER (cell d (k (par s))) (s / 2 + 1)) := by
  unfold place; rw [par_two, show (s + 2) / 2 = s / 2 + 1 by omega]

omit [FloatOps F] in
theorem agains_le {j j' : ℕ} (h : j ≤ j') (e : Dev nD) : (agains j' e : sProp 𝕄) ⊢ again j e := by
  induction j' with
  | zero => obtain rfl : j = 0 := by omega
            exact BIBase.Entails.refl
  | succ n ih =>
    rcases Nat.lt_or_ge n j with h' | h'
    · obtain rfl : j = n + 1 := by omega
      unfold agains; iintro ⟨H, -⟩; iexact H
    · unfold agains; iintro ⟨-, H⟩; iapply (ih h') $$ H

omit [FloatOps F] in
theorem know_back {n j : ℕ} (h : j ≤ n) (d : Dev nD) : (know n d : sProp 𝕄) ⊢ entered (back j d) := by
  induction n generalizing j d with
  | zero => obtain rfl : j = 0 := by omega
            rw [back_zero]; exact BIBase.Entails.refl
  | succ n ih =>
    cases j with
    | zero => rw [back_zero]; unfold know; iintro ⟨H, -⟩; iexact H
    | succ j => rw [back_succ]; unfold know; iintro ⟨-, H⟩; iapply (ih (by omega) (left d)) $$ H

omit [FloatOps F] in
/-- After the last step a device knows that every device has entered. -/
theorem know_all (d e : Dev nD) : (know 31 d : sProp 𝕄) ⊢ entered e := by
  obtain ⟨j, hj, rfl⟩ := exists_back d e
  exact know_back hj d

end Cert.KernelIdeal.Ring

end
-- ==== Proof.Credit.lean ====
/-
  The wait for a credit: afterwards the right neighbour's slot of this step may be written.
-/
module

public import proofs.«01_k».proof.Proof.State

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.TalkSites (tallyL tallyL_pos tallyL_append)
open Idealize.ShloMosaic.SiteBlocks (L lv mem_L' mayWait_of)
open Cert.KernelIdeal.Gen

variable {F : FTy → Type} [FloatOps F]

local notation "𝕄" => MT nD τ sig ℕ (Elt F) ℕ UU ℕ

abbrev 𝒱₀ : Variants := Variants.none

variable {m : (ℓ : Loc nD τ sig) → Buf (Elt F) ℓ} {K : Dev nD × CellK → ℕ} {J : SlotK → ℕ}

/-- Device `e`'s slot may be written for step `s`. -/
def may (s : ℕ) (e : Dev nD) : sProp 𝕄 :=
  iprop(released ES (e, Sum.inl (par s)) (s / 2 + 1) ∗ reached ER (cell e (.recv (par s))) (s / 2))

omit [FloatOps F] in
instance may_persistent (s e) : BI.Persistent (may (F := F) s e) := by unfold may; infer_instance

omit [FloatOps F] in
theorem may_of_again (j : ℕ) (e : Dev nD) : (again j e : sProp 𝕄) ⊢ may (j + 2) e := by
  unfold again may; rw [par_two, show (j + 2) / 2 = j / 2 + 1 by omega]

omit [FloatOps F] in
/-- Among `j + 1` of the 29 credits, one is of step `j` or later. -/
theorem exists_late {S : Finset ℕ} {j : ℕ} (h : j + 1 + (Finset.range 29 \ S).card ≤ 29) (hS : S ⊆ Finset.range 29) :
    ∃ i ∈ S, j ≤ i := by
  by_contra hn
  simp only [not_exists, not_and, not_le] at hn
  have h1 : S ⊆ Finset.range j := fun i hi => Finset.mem_range.mpr (hn i hi)
  have h2 := Finset.card_le_card h1
  have h3 := Finset.card_sdiff_add_card_eq_card hS
  rw [Finset.card_range] at h2 h3
  omega

omit [FloatOps F] in
theorem agains_bigSep_one {S : Finset ℕ} {i j : ℕ} (hi : i ∈ S) (hj : j ≤ i) (e : Dev nD) :
    (bigSep S (fun j => agains j e) : sProp 𝕄) ⊢ again j e :=
  (bigSep_one hi (Φ := fun j => agains (F := F) j e)).trans (agains_le hj e)

omit [FloatOps F] in
instance counted_persistent (S : Finset ℕ) (e : Dev nD) : BI.Persistent (bigSep S fun j => agains (F := F) j e) := by infer_instance

theorem wp_creditWait (s : ℕ) (hs : s ≤ 30) (d : Dev nD) (l : List (TalkSites.Pay nD τ sig)) (hl : Over (2 * s + 1) l)
    (W : Waits sig ℕ) (Q : PUnit → sProp 𝕄) :
    iprop(shared m K J ∗ owes (d : Thread nD τ) (tallyL l) W ∗ (bigSep (Finset.Ico (s - 2) 29) fun j => getCred j d)
        ∗ counted (s - 2) d ∗ opened (right d))
      ⊢ iprop((((∃ W, owes (d : Thread nD τ) (tallyL l) W) ∗ (bigSep (Finset.Ico (s + 1 - 2) 29) fun j => getCred j d)
          ∗ counted (s + 1 - 2) d ∗ may s (right d)) -∗ Q ⟨⟩)
        -∗ wp frame (wpE (defs₀ (F := F)) 𝒱₀ (d : Thread nD τ) none) Set.univ (creditWait s) Q) := by
  match s, hs with
  | 0, _ =>
    unfold creditWait opened
    iintro ⟨#HS, Ho, Hg, Hc, #HO0, #HO1⟩ Hk
    rw [Prog.pure_eq_ret, wp_ret]; imodintro
    iapply Hk
    isplitl [Ho]; · iexists W; iexact Ho
    isplitl [Hg]; · iexact Hg
    isplitl [Hc]; · iexact Hc
    unfold may
    isplitr; · iexact HO0
    iapply (shared_reached (right d) (.recv (par 0))); iexact HS
  | 1, _ =>
    unfold creditWait opened
    iintro ⟨#HS, Ho, Hg, Hc, #HO0, #HO1⟩ Hk
    rw [Prog.pure_eq_ret, wp_ret]; imodintro
    iapply Hk
    isplitl [Ho]; · iexists W; iexact Ho
    isplitl [Hg]; · iexact Hg
    isplitl [Hc]; · iexact Hc
    unfold may
    isplitr; · iexact HO1
    iapply (shared_reached (right d) (.recv (par 1))); iexact HS
  | j + 2, hs =>
    have hi2 : 2 * j + 3 < 200 := by omega
    have ho : Over (2 * j + 3) l := hl.mono (by omega)
    have hw : shared m K J ⊢ MayOwe (d : Thread nD τ) {(csem .credit, 2 * j + 3)} (tallyL l) :=
      shared_lev.trans (mayWait d (csem .credit) ho hi2)
    have hk1 : Util.total (Finsupp.single (2 * j + 3) 1) = (1#32).toNat := by rw [Util.total_single]; decide
    unfold creditWait counted
    rw [show j + 2 - 2 = j from rfl, show j + 2 + 1 - 2 = j + 1 from rfl, bigSep_Ico_head (show j < 29 by omega)]
    simp only [semWaitWord, Prog.lift, Prog.bind_op, Prog.bind_ret, Prog.pure_eq_ret]
    iintro ⟨#HS, Ho, ⟨Hg, Hgs⟩, ⟨%S, -, Hat, #Hp⟩, #HO⟩ Hk
    unfold getCred
    iapply (Rounds.wp_wait 𝒱₀ ER (ringRd m) (d : Thread nD τ) none (κ := K (d, .credit)) (sm := csem .credit) (R := 0) (T := S) (m := j)
      (cr := Finsupp.single (2 * j + 3) 1)
      (wpE_semWait_eq 𝒱₀ (d : Thread nD τ) none Set.univ) (Set.mem_univ _) {(csem .credit, 2 * j + 3)}
      hk1 (image_single_subset _ _ _)) $$ [Ho Hg Hat]
    · isplitr; · iapply (shared_cell d .credit); iexact HS
      isplitl [Hg]; · iexact Hg
      isplitl [Ho]; · iexact Ho
      isplitr; · iapply hw; iexact HS
      iexact Hat
    iintro %S' ⟨%hS, Ho, Hat, Hp'⟩
    obtain ⟨h1, h2, h3⟩ := hS
    rw [duties_cell] at h2 h3
    rw [expect_cell] at h3
    rw [wp_ret]; imodintro
    iapply Hk
    isplitl [Ho]; · iexists _; iexact Ho
    isplitl [Hgs]; · iexact Hgs
    have h4 : j + 1 + (Finset.range 29 \ S').card ≤ 29 := by
      have : (dutiesOf .credit 0).card * unitsOf .credit = 29 := by decide
      rw [this] at h3
      exact h3
    obtain ⟨i, hi, hji⟩ := exists_late h4 h2
    ihave Hall := (show iprop((bigSep S fun j => agains j (right d)) ∗ bigSep (S' \ S) fun j => (ringRd m).payload (cell d .credit) 0 j)
        ⊢ (bigSep S' fun j => agains j (right d) : sProp 𝕄) from by
      rw [bigSep_sdiff_split h1, bigSep_congr (s := S' \ S) fun j _ => payload_cell m d .credit 0 j]
      exact BIBase.Entails.refl) $$ [Hp Hp']
    · isplitr; · iexact Hp
      iexact Hp'
    icases Hall with #Hall
    isplitl [Hat]
    · iexists S'
      isplitr; · ipureintro; exact ⟨h4, h2⟩
      isplitl [Hat]; · iexact Hat
      iexact Hall
    iapply (may_of_again j (right d))
    iapply (agains_bigSep_one hi hji (right d)) $$ Hall

end Cert.KernelIdeal.Ring

end
-- ==== Proof.Transfer.lean ====
/-
  One transfer of the ring: the send, and the two waits after which the slot has left and the neighbour's has landed.
-/
module

public import proofs.«01_k».proof.Proof.Credit

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.TalkSites (tallyL tallyL_pos tallyL_append)
open Idealize.ShloMosaic.SiteBlocks (L lv mem_L' mayWait_of)
open Cert.KernelIdeal.Gen

variable {F : FTy → Type} [FloatOps F]

local notation "𝕄" => MT nD τ sig ℕ (Elt F) ℕ UU ℕ

variable {m : (ℓ : Loc nD τ sig) → Buf (Elt F) ℓ} {K : Dev nD × CellK → ℕ} {J : SlotK → ℕ}

theorem tallyL_cons (x : TalkSites.Pay nD τ sig) (l) : tallyL (x :: l) = tallyL l + tallyAt x.1 x.2.1 x.2.2 := by
  rw [tallyL, add_comm]

theorem tallyL_recv (s : ℕ) (d : Dev nD) (l) : tallyL (recvPay s (right d) :: l) = tallyL l + tallyAt (cell (right d) (.recv (par s))) (2 * s + 2) Nslot :=
  tallyL_cons _ _

theorem mem_send {s : ℕ} (hs : s ≤ 30) (d : Dev nD) : 0 ∈ (ringRd m).duties (cell d (.send (par s))) (s / 2) := by
  rw [duties_cell, dutiesOf_send s (by omega)]; exact Finset.mem_singleton_self 0
theorem mem_recv {s : ℕ} (hs : s ≤ 30) (d : Dev nD) : 0 ∈ (ringRd m).duties (cell d (.recv (par s))) (s / 2) := by
  rw [duties_cell, dutiesOf_recv s (by omega)]; exact Finset.mem_singleton_self 0

theorem slot_credit (i : Fin 2) (q : DmaSem sig) : (slotM cM i).view.amount (.dma q) = Nslot := by
  rw [View.amount_dma]; revert i; unfold Nslot; intro i; rfl
theorem send_credit (i : Fin 2) (q : DmaSem sig) : (slotM sM i).view.amount (.dma q) = Nslot := by
  rw [View.amount_dma]; revert i; unfold Nslot; intro i; rfl

/-- Once the transfer has left, the sending slot is free. -/
theorem send_back (s : ℕ) (d : Dev nD) (fs : Buf (Elt F) (sM.view.loc (d : Thread nD τ))) :
    ((slotM sM (par s)).view.loc (d : Thread nD τ) ↦[(slotM sM (par s)).view.set]{fullShare} fs)
      ⊢ (ringRd m).payload (cell d (.send (par s))) (s / 2) 0 := by
  rw [payload_cell]
  show sendPts (par s) d fs ⊢ iprop(∃ f, sendPts (par s) d f)
  iintro H; iexists fs; iexact H

/-- What is in the slot after the landing is what the sender had, and the sender's knowledge comes with it. -/
theorem landed_intro (s : ℕ) (d : Dev nD) (fs : Buf (Elt F) (sM.view.loc (d : Thread nD τ)))
    (hf : sM.view.readAt (Elt F) (slotR (par s)).toLoadRect fs = sent m s d) (fd : Buf (Elt F) (cM.view.loc (right d : Thread nD τ))) :
    iprop(((slotM cM (par s)).view.loc (right d : Thread nD τ) ↦[(slotM cM (par s)).view.set]{fullShare}
        ((slotM cM (par s)).view.write (Elt F) fd ((slotM sM (par s)).view.read (Elt F) fs) Finset.univ)) ∗ know s d)
      ⊢ (ringRd m).payload (cell (right d) (.recv (par s))) (s / 2) 0 := by
  rw [payload_cell]
  show iprop(recvPts (par s) (right d) ((slotM cM (par s)).view.write (Elt F) fd ((slotM sM (par s)).view.read (Elt F) fs) Finset.univ) ∗ know s d)
      ⊢ landed m (2 * (s / 2) + (par s).val) (right d)
  rw [step_eq]
  unfold landed
  rw [left_right]
  iintro ⟨H, Hk⟩
  isplitl [H]
  · iexists _
    isplitr
    swap
    · iexact H
    · ipureintro
      exact (readAt_landing cM sM (slotR (par s)) _ _ fd fs).trans hf
  iexact Hk

theorem wp_sendStep (s : ℕ) (hs : s ≤ 30) (d : Dev nD) (l : List (TalkSites.Pay nD τ sig)) (W : Waits sig ℕ) (Q : PUnit → sProp 𝕄) :
    iprop(shared m K J ∗ owes (d : Thread nD τ) (tallyL (recvPay s (right d) :: l)) W ∗ full m s d
        ∗ reached ER (cell d (.send (par s))) (s / 2) ∗ know s d ∗ may s (right d)
        ∗ writeTok ES (right d, Sum.inl (par s)) (s / 2 + 1)
        ∗ dutyTok ER (cell d (.send (par s))) (s / 2) 0 ∗ dutyTok ER (cell (right d) (.recv (par s))) (s / 2) 0)
      ⊢ iprop(((cred (tallyAt (cell d (.send (par s))) 0 Nslot) ∗ owes (d : Thread nD τ) (tallyL l) W) -∗ Q ⟨⟩)
        -∗ wp frame (wpE (defs₀ (F := F)) 𝒱₀ (d : Thread nD τ) none) Set.univ (sendStep d (par s)) Q) := by
  unfold sendStep full may
  simp only [Prog.lift, Prog.bind_op, Prog.bind_ret, Prog.pure_eq_ret]
  iintro ⟨#HS, Ho, ⟨%fs, %hf, Hs⟩, #Hr, #Hk, ⟨#Hrel, #Hrd⟩, Hw, Ht1, Ht2⟩ HQ
  ihave HJ := (shared_slot (m := m) (K := K) (J := J) (right d, Sum.inl (par s))) $$ HS
  imod (slot_take ES (Set.mem_univ _) (s / 2 + 1)) $$ [HJ Hw] with Hslot
  · isplitl [HJ]; · iexact HJ
    isplitr; · iexact Hrel
    iexact Hw
  unfold slotOf
  icases Hslot with ⟨%fd, Hd⟩
  iapply (Rounds.wp_send_pointsTo_with 𝒱₀ ER (ringRd m) (d : Thread nD τ) none (κ₁ := K (d, .send (par s))) (κ₂ := K (right d, .recv (par s)))
      (c' := (right d : Thread nD τ)) (src := slotM sM (par s)) (dst := slotM cM (par s)) (sS := csem (.send (par s))) (sem := csem (.recv (par s)))
      (r₁ := s / 2) (r₂ := s / 2) (d₁ := 0) (d₂ := 0) (fd := fd) (fs := fs) (F := know s d) (mem_send hs d) (mem_recv hs (right d)) (2 * s + 2) 0 Nslot (slot_credit (par s) (recvS (par s)))
      (amount_cell m d (.send (par s)) _ _) (amount_cell m (right d) (.recv (par s)) _ _) (tallyL l) (tallyL_recv s d l)
      (send_back s d fs) (landed_intro s d fs hf fd)) $$ [Ho Hs Hd Ht1 Ht2]
  · isplitr; · iapply (shared_cell d (.send (par s))); iexact HS
    isplitr; · iapply (shared_cell (right d) (.recv (par s))); iexact HS
    isplitl [Hs]; · unfold sendPts; iexact Hs
    isplitl [Hd]
    · isplitl [Hd]; · unfold recvPts; iexact Hd
      iexact Hk
    isplitl [Ho]; · iexact Ho
    isplitl [Ht1]; · iexact Ht1
    isplitr; · iexact Hr
    isplitl [Ht2]; · iexact Ht2
    iexact Hrd
  iintro H
  rw [wp_ret]; imodintro
  iapply HQ $$ H

/-- The rest of a send cell's round, and of a landing cell's. -/
theorem rest_send {s : ℕ} (hs : s ≤ 30) (d : Dev nD) :
    bigSep ((ringRd m).duties (cell d (.send (par s))) (s / 2) \ ∅) (fun j => (ringRd m).payload (cell d (.send (par s))) (s / 2) j) = free s d := by
  rw [Finset.sdiff_empty, duties_cell, dutiesOf_send s (by omega), bigSep_singleton, payload_cell]; rfl
theorem rest_recv {s : ℕ} (hs : s ≤ 30) (d : Dev nD) :
    bigSep ((ringRd m).duties (cell d (.recv (par s))) (s / 2) \ ∅) (fun j => (ringRd m).payload (cell d (.recv (par s))) (s / 2) j) = landed m s d := by
  rw [Finset.sdiff_empty, duties_cell, dutiesOf_recv s (by omega), bigSep_singleton, payload_cell]
  show landed m (2 * (s / 2) + (par s).val) d = _
  rw [step_eq]

theorem expect_send {s : ℕ} (hs : s ≤ 30) (d : Dev nD) : 0 + (slotM sM (par s)).view.dmaCredit = (ringRd m).expect (cell d (.send (par s))) (s / 2) := by
  rw [expect_cell, dutiesOf_send s (by omega), Finset.card_singleton, Nat.one_mul, Nat.zero_add]; exact send_credit (par s) (sendS (par s))
theorem expect_recv {s : ℕ} (hs : s ≤ 30) (d : Dev nD) : 0 + (slotM cM (par s)).view.dmaCredit = (ringRd m).expect (cell d (.recv (par s))) (s / 2) := by
  rw [expect_cell, dutiesOf_recv s (by omega), Finset.card_singleton, Nat.one_mul, Nat.zero_add]; exact slot_credit (par s) (recvS (par s))

theorem wp_landStep (s : ℕ) (hs : s ≤ 30) (d : Dev nD) (l : List (TalkSites.Pay nD τ sig)) (hl : Over (2 * s + 2) l) (W : Waits sig ℕ)
    (Q : PUnit → sProp 𝕄) :
    iprop(shared m K J ∗ owes (d : Thread nD τ) (tallyL l) W ∗ cred (tallyAt (cell d (.send (par s))) 0 Nslot)
        ∗ cred (tallyAt (cell d (.recv (par s))) (2 * s + 2) Nslot) ∗ place .send s d ∗ place .recv s d)
      ⊢ iprop((((∃ W, owes (d : Thread nD τ) (tallyL l) W) ∗ free s d ∗ landed m s d ∗ place .send (s + 2) d ∗ place .recv (s + 2) d) -∗ Q ⟨⟩)
        -∗ wp frame (wpE (defs₀ (F := F)) 𝒱₀ (d : Thread nD τ) none) Set.univ (landStep (par s)) Q) := by
  have hi2 : 2 * s + 2 < 200 := by omega
  have hw : shared m K J ⊢ MayWait (d : Thread nD τ) (csem (.recv (par s))) (2 * s + 2) (tallyL l) :=
    shared_lev.trans (mayWait d _ hl hi2)
  have ho0 : Over 0 l := hl.mono (by omega)
  have hw0 : shared m K J ⊢ MayWait (d : Thread nD τ) (csem (.send (par s))) 0 (tallyL l) :=
    shared_lev.trans (mayWait d _ ho0 (by decide))
  rw [place_two, place_two]
  unfold landStep place
  simp only [Prog.lift, Prog.bind_op, Prog.bind_ret, Prog.pure_eq_ret]
  iintro ⟨#HS, Ho, Hc1, Hc2, ⟨Ha1, -⟩, ⟨Ha2, -⟩⟩ HQ
  iapply (Rounds.wp_wait_rest_token 𝒱₀ ER (ringRd m) (d : Thread nD τ) none (κ := K (d, .send (par s))) (sm := csem (.send (par s)))
      (wpE_waitDma2_eq 𝒱₀ (d : Thread nD τ) none Set.univ) (Set.mem_univ _) 0 (O := tallyL l) (W := W) (R := s / 2) (m := 0) (T := ∅)
      (expect_send hs d)) $$ [Ho Hc1 Ha1]
  · isplitr; · iapply (shared_cell d (.send (par s))); iexact HS
    isplitl [Hc1]; · iexact Hc1
    isplitl [Ho]; · iexact Ho
    isplitr; · iapply hw0; iexact HS
    iexact Ha1
  iintro ⟨Ho, Ha1, #Hr1, Hp1⟩
  ihave Hf := (Entails.of_eq (rest_send hs d)) $$ Hp1
  iapply (Rounds.wp_wait_rest_token 𝒱₀ ER (ringRd m) (d : Thread nD τ) none (κ := K (d, .recv (par s))) (sm := csem (.recv (par s)))
      (wpE_waitDma2_eq 𝒱₀ (d : Thread nD τ) none Set.univ) (Set.mem_univ _) (2 * s + 2) (O := tallyL l) (R := s / 2) (m := 0) (T := ∅)
      (expect_recv hs d)) $$ [Ho Hc2 Ha2]
  · isplitr; · iapply (shared_cell d (.recv (par s))); iexact HS
    isplitl [Hc2]; · iexact Hc2
    isplitl [Ho]; · iexact Ho
    isplitr; · iapply hw; iexact HS
    iexact Ha2
  iintro ⟨Ho, Ha2, #Hr2, Hp2⟩
  ihave Hl := (Entails.of_eq (rest_recv hs d)) $$ Hp2
  rw [wp_ret]; imodintro
  iapply HQ
  isplitl [Ho]; · iexists _; iexact Ho
  isplitl [Hf]; · iexact Hf
  isplitl [Hl]; · iexact Hl
  isplitl [Ha1]
  · isplitl [Ha1]; · iexact Ha1
    iexact Hr1
  · isplitl [Ha2]; · iexact Ha2
    iexact Hr2

end Cert.KernelIdeal.Ring

end
-- ==== Proof.RingStep.lean ====
/-
  A step of the ring, and the ring.
-/
module

public import proofs.«01_k».proof.Proof.Transfer

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.TalkSites (tallyL tallyL_pos tallyL_append)
open Idealize.ShloMosaic.SiteBlocks (L lv mem_L' mayWait_of)
open Cert.KernelIdeal.Gen

variable {F : FTy → Type} [FloatOps F]

local notation "𝕄" => MT nD τ sig ℕ (Elt F) ℕ UU ℕ

variable {m : (ℓ : Loc nD τ sig) → Buf (Elt F) ℓ} {K : Dev nD × CellK → ℕ} {J : SlotK → ℕ}

theorem zero_off : (![0, 0] : Fin 2 → Nat) = fun _ => 0 := by funext a; fin_cases a <;> rfl

omit [FloatOps F] in
theorem read_full_k (f : (cc0_scratch0 : Ref sig .tc).ty.Contents (Elt F)) : kM.view.readAt (Elt F) fullR.toLoadRect f = f :=
  Memref.readAt_unit_zero (Elt F) cc0_scratch0 zero_off _ f

/-- The elements that a load or a store of a slot touches are the slot's. -/
theorem load_slot (M : Memref sig .tc .vmem S2x128x8192 .bf16) (i : Fin 2) : M.view.setOn (slotR i).toLoadRect.set ⊆ (slotM M i).view.set := by
  rw [set_matrix]
theorem store_slot (M : Memref sig .tc .vmem S2x128x8192 .bf16) (i : Fin 2) : (M.access (slotR i)).setOn Finset.univ ⊆ (slotM M i).view.set := by
  rw [set_matrix]; exact subset_of_eq (View.set_slice M.view (slotR i))

theorem wp_exchange (s : ℕ) (h31 : s < 31) (d : Dev nD) (l : List (TalkSites.Pay nD τ sig)) (hl : Over (2 * s + 2) l) (W : Waits sig ℕ)
    (Q : FVec F S128x8192 .f32 × Vec F S1x128x8192 .bf16 → sProp 𝕄) :
    iprop(shared m K J ∗ owes (d : Thread nD τ) (tallyL (recvPay s (right d) :: l)) W ∗ xPts m d ∗ kPts m d ∗ full m s d
        ∗ place .send s d ∗ place .recv s d ∗ spend s d
        ∗ (bigSep (Finset.Ico (s - 2) 29) fun j => getCred j d) ∗ counted (s - 2) d ∗ know s d ∗ opened (right d))
      ⊢ iprop((((∃ W, owes (d : Thread nD τ) (tallyL l) W) ∗ xPts m d ∗ kPts m d ∗ free s d
          ∗ place .send (s + 2) d ∗ place .recv (s + 2) d
          ∗ (bigSep (Finset.Ico (s + 1 - 2) 29) fun j => getCred j d) ∗ counted (s + 1 - 2) d ∗ know s (left d)
          ∗ (∃ f, recvPts (par s) d f)) -∗ Q (prod m s d, sent m s (left d)))
        -∗ wp frame (wpE (defs₀ (F := F)) 𝒱₀ (d : Thread nD τ) none) Set.univ (exchange d ⟨s, h31⟩) Q) := by
  have hs : s ≤ 30 := by omega
  have hl1 : Over (2 * s + 1) (recvPay s (right d) :: l) :=
    (hl.mono (by omega)).cons ⟨rfl, by show 2 * s + 1 < 2 * s + 2; omega, by show 2 * s + 2 < 200; omega⟩
  unfold exchange spend
  rw [wp_bind]
  iintro ⟨#HS, Ho, Hx, Hk, Hf, Hp1, Hp2, ⟨Hw, Ht1, Ht2, Hc⟩, Hg, Hn, #Hkn, #Hop⟩ HQ
  iapply (wp_creditWait (m := m) (K := K) (J := J) s hs d (recvPay s (right d) :: l) hl1 W) $$ [Ho Hg Hn]
  · isplitr; · iexact HS
    isplitl [Ho]; · iexact Ho
    isplitl [Hg]; · iexact Hg
    isplitl [Hn]; · iexact Hn
    iexact Hop
  iintro ⟨⟨%W', Ho⟩, Hg, Hn, #Hmay⟩
  rw [wp_bind]
  unfold place
  icases Hp1 with ⟨Hp1, #Hr1⟩
  iapply (wp_sendStep (m := m) (K := K) (J := J) s hs d l W') $$ [Ho Hf Hw Ht1 Ht2]
  · isplitr; · iexact HS
    isplitl [Ho]; · iexact Ho
    isplitl [Hf]; · iexact Hf
    isplitr; · iexact Hr1
    isplitr; · iexact Hkn
    isplitr; · iexact Hmay
    isplitl [Hw]; · iexact Hw
    isplitl [Ht1]; · iexact Ht1
    iexact Ht2
  iintro ⟨Hcs, Ho⟩
  simp only [Prog.lift, Prog.bind_op, Prog.bind_ret, Prog.pure_eq_ret]
  unfold xPts kPts
  iapply (wp_load 𝒱₀ (d : Thread nD τ) none Set.univ (m := xM) (Finset.subset_univ _)) $$ Hx; iintro Hx
  iapply (wp_load 𝒱₀ (d : Thread nD τ) none Set.univ (m := kM) (Finset.subset_univ _)) $$ Hk; iintro Hk
  rw [wp_bind]
  iapply (wp_landStep (m := m) (K := K) (J := J) s hs d l hl W') $$ [Ho Hcs Hc Hp1 Hp2]
  · isplitr; · iexact HS
    isplitl [Ho]; · iexact Ho
    isplitl [Hcs]; · iexact Hcs
    isplitl [Hc]; · iexact Hc
    unfold place
    isplitl [Hp1]
    · isplitl [Hp1]; · iexact Hp1
      iexact Hr1
    iexact Hp2
  unfold landed recvPts
  iintro ⟨Ho, Hf, ⟨⟨%f, %hf, Hr⟩, Hkl⟩, Hp1, Hp2⟩
  iapply (wp_load 𝒱₀ (d : Thread nD τ) none Set.univ (m := cM) (load_slot cM (par s))) $$ Hr; iintro Hr
  rw [wp_ret]; imodintro
  rw [read_full_k, hf, show k0_pay4 (xM.view.readAt (Elt F) (stepR d ⟨s, h31⟩).toLoadRect (xIn m d)) (kept m d) = prod m s d by
    unfold prod; rw [show stepIx s = ⟨s, h31⟩ from stepIx_val ⟨s, h31⟩]]
  iapply HQ
  isplitl [Ho]; · iexact Ho
  isplitl [Hx]; · iexact Hx
  isplitl [Hk]; · iexact Hk
  isplitl [Hf]; · iexact Hf
  isplitl [Hp1]; · unfold place; iexact Hp1
  isplitl [Hp2]; · unfold place; iexact Hp2
  isplitl [Hg]; · iexact Hg
  isplitl [Hn]; · iexact Hn
  isplitl [Hkl]; · iexact Hkl
  iexists f; iexact Hr

/-- The sum is put into the slot of the next step. -/
theorem wp_putStep (s : ℕ) (d : Dev nD) (Q : PUnit → sProp 𝕄) (v : FVec F S1x128x8192 .bf16) (hv : v = sent m s d) :
    (free s d : sProp 𝕄)
      ⊢ iprop((full m s d -∗ Q ⟨⟩) -∗ wp frame (wpE (defs₀ (F := F)) 𝒱₀ (d : Thread nD τ) none) Set.univ (putStep (par s) v) Q) := by
  unfold putStep free full sendPts
  simp only [Prog.lift, Prog.bind_op, Prog.bind_ret, Prog.pure_eq_ret]
  iintro ⟨%f, H⟩ HQ
  iapply (wp_load 𝒱₀ (d : Thread nD τ) none Set.univ (m := sM) (load_slot sM (par s))) $$ H; iintro H
  iapply (wp_store 𝒱₀ (d : Thread nD τ) none Set.univ (m := sM) (r := slotR (par s)) (Mk := Finset.univ) (store_slot sM (par s))) $$ H; iintro H
  rw [wp_ret]; imodintro
  iapply HQ
  iexists _
  isplitr
  swap
  · iexact H
  · ipureintro
    exact (readAt_stored sM (slotR (par s)) f v).trans hv

theorem pts_pts_false (i : Fin 2) (d : Dev nD) : iprop((∃ f, recvPts i d f) ∗ (∃ f, recvPts i d f)) ⊢ (False : sProp 𝕄) := by
  exact slot_slot_false ((slotM cM i).view.set_nonempty (by decide))

omit [FloatOps F] in
theorem past_succ (j : ℕ) (d : Dev nD) : (past (j + 1) d : sProp 𝕄) = if j ≤ 28 then agains j d else iprop(emp) := rfl

omit [FloatOps F] in
theorem agains_succ (j : ℕ) (d : Dev nD) : (agains (j + 1) d : sProp 𝕄) = iprop(again (j + 1) d ∗ agains j d) := rfl
omit [FloatOps F] in
theorem know_succ (n : ℕ) (d : Dev nD) : (know (n + 1) d : sProp 𝕄) = iprop(entered d ∗ know n (left d)) := rfl

/-- Whoever gave a credit is told what its giver read. -/
theorem payload_credit (s : ℕ) (d : Dev nD) : (ringRd m).payload ((left d : Thread nD τ), .reg creditS) 0 s = agains s d := by
  rw [show (((left d : Thread nD τ), .reg creditS) : GSem nD τ sig) = cell (left d) .credit from rfl, payload_cell]
  show agains s (right (left d)) = agains s d
  rw [right_left]

/-- What it knows of its earlier reads, with one more. -/
theorem past_again {s : ℕ} (h : s ≤ 28) (d : Dev nD) : iprop(past s d ∗ again s d) ⊢ (agains s d : sProp 𝕄) := by
  cases s with
  | zero => unfold agains; iintro ⟨-, H⟩; iexact H
  | succ n =>
    rw [past_succ, if_pos (show n ≤ 28 by omega), agains_succ]
    iintro ⟨H, H'⟩
    isplitl [H']; · iexact H'
    iexact H

theorem tallyL_credit (s : ℕ) (d : Dev nD) (l) :
    tallyL (creditPay s (left d) :: l) = tallyL l + tallyAt (cell (left d) .credit) (2 * s + 3) 1 := tallyL_cons _ _

/-- The slot goes back to its writer, as long as there is a later step that writes it. -/
theorem wp_freeStep (s : ℕ) (hs : s ≤ 29) (d : Dev nD) (l : List (TalkSites.Pay nD τ sig)) (W : Waits sig ℕ) (Q : PUnit → sProp 𝕄) :
    iprop(shared m K J ∗ owes (d : Thread nD τ) (tallyL (creditDue s d ++ l)) W ∗ reader s d ∗ (∃ f, recvPts (par s) d f)
        ∗ (bigSep (Finset.Ico s 29) fun j => giveTok j d) ∗ past s d ∗ reached ER (cell d (.recv (par s))) (s / 2 + 1))
      ⊢ iprop((((∃ W, owes (d : Thread nD τ) (tallyL l) W) ∗ reader (s + 2) d
          ∗ (bigSep (Finset.Ico (s + 1) 29) fun j => giveTok j d) ∗ past (s + 1) d) -∗ Q ⟨⟩)
        -∗ wp frame (wpE (defs₀ (F := F)) 𝒱₀ (d : Thread nD τ) none) Set.univ (freeStep d s) Q) := by
  rcases Nat.lt_or_ge 28 s with h | h
  · obtain rfl : s = 29 := by omega
    unfold freeStep
    rw [show creditDue 29 d ++ l = l from rfl]
    show _ ⊢ iprop(_ -∗ wp frame (wpE (defs₀ (F := F)) 𝒱₀ (d : Thread nD τ) none) Set.univ (pure ⟨⟩) Q)
    rw [Prog.pure_eq_ret, wp_ret]
    iintro ⟨#HS, Ho, -, Hr, Hg, -, -⟩ HQ
    imodintro
    iapply HQ
    isplitl [Ho]; · iexists W; iexact Ho
    isplitl [Hr]
    · unfold reader; rw [if_neg (by decide), par_two]; iexact Hr
    isplitl [Hg]; · iexact Hg
    rw [past_succ, if_neg (by decide)]; iempintro
  · have hb : Nat.ble s 28 = true := Nat.ble_eq.mpr h
    have hd : s ∈ (ringRd m).duties (cell (left d) .credit) 0 := by
      rw [duties_cell]; exact Finset.mem_range.mpr (by omega)
    unfold freeStep reader creditDue
    rw [hb, if_pos h, if_pos (show s ≤ 30 by omega), if_pos (show s + 2 ≤ 30 by omega), bigSep_Ico_head (show s < 29 by omega), List.singleton_append, tallyL_credit]
    simp only [semSignalWord, Prog.lift, Prog.bind_op, Prog.bind_ret, Prog.pure_eq_ret]
    iintro ⟨#HS, Ho, Hr, Hsl, ⟨Ht, Hts⟩, #Hpast, #Hrch⟩ HQ
    ihave HJ := (shared_slot (m := m) (K := K) (J := J) (d, Sum.inl (par s))) $$ HS
    imod (slot_release ES (Set.mem_univ _) (pts_pts_false (par s) d) (s / 2 + 1)) $$ [HJ Hr Hsl] with ⟨Hr, #Hrel⟩
    · isplitl [HJ]; · iexact HJ
      isplitl [Hr]; · iexact Hr
      iexact Hsl
    ihave Ha := (past_again h d) $$ []
    · isplitr; · iexact Hpast
      unfold again
      isplitr; · iexact Hrel
      iexact Hrch
    icases Ha with #Ha
    unfold giveTok
    iapply (Rounds.wp_signal 𝒱₀ ER (ringRd m) (d : Thread nD τ) none (dst := (left d : Thread nD τ)) (sem := creditS) (κ := K (left d, .credit)) (r := 0)
        (d := s) hd ((amount_cell m (left d) .credit 0 s).trans (by decide)) (2 * s + 3) (tallyL l) rfl) $$ [Ho Ht]
    · isplitr; · iapply (shared_cell (left d) .credit); iexact HS
      isplitl [Ho]; · iexact Ho
      isplitl [Ht]; · iexact Ht
      isplitr
      · rw [payload_credit]; iexact Ha
      iapply (shared_reached (left d) .credit); iexact HS
    iintro Ho
    rw [wp_ret]; imodintro
    iapply HQ
    isplitl [Ho]; · iexists W; iexact Ho
    isplitl [Hr]
    · rw [par_two, show (s + 2) / 2 + 1 = s / 2 + 1 + 1 by omega]; iexact Hr
    isplitl [Hts]; · iexact Hts
    rw [past_succ, if_pos h]; iexact Ha

/-- What a device holds after the ring. -/
def ringEnd (d : Dev nD) : sProp 𝕄 :=
  iprop(xPts m d ∗ kPts m d ∗ free 30 d ∗ free 31 d
    ∗ place .send 31 d ∗ place .send 32 d ∗ place .recv 31 d ∗ place .recv 32 d
    ∗ (∃ f, recvPts (par 30) d f) ∗ reader 31 d ∗ counted 29 d ∗ know 31 d)

theorem wp_ringFrom (d : Dev nD) (Q : FVec F S128x8192 .f32 × Vec F S1x128x8192 .bf16 → sProp 𝕄) : ∀ (n s : ℕ) (h : s + n = 30),
    iprop(shared m K J ∗ (∃ W, owes (d : Thread nD τ) (tallyL (ringDue d n s)) W) ∗ ringSt m s d)
      ⊢ iprop((((∃ W, owes (d : Thread nD τ) (tallyL (axDue 0 d)) W) ∗ ringEnd (m := m) d) -∗ Q (prod m 30 d, sent m 30 (left d)))
        -∗ wp frame (wpE (defs₀ (F := F)) 𝒱₀ (d : Thread nD τ) none) Set.univ (ringFrom d n s h) Q)
  | 0, s, h => by
    obtain rfl : s = 30 := h
    unfold ringFrom ringDue ringSt
    rw [bigSep_Ico_head (show 30 < 31 by decide)]
    iintro ⟨#HS, ⟨%W, Ho⟩, Hx, Hk, Hf, Hf', Hps, Hps', Hpr, Hpr', -, Hrd', ⟨Hsp, -⟩, -, Hg, Hn, #Hkn, -, #Hop⟩ HQ
    iapply (wp_exchange (m := m) (K := K) (J := J) 30 _ d (axDue 0 d) ((over_axDue 0 d).mono (by decide)) W) $$ [Ho Hx Hk Hf Hps Hpr Hsp Hg Hn]
    · isplitr; · iexact HS
      isplitl [Ho]; · iexact Ho
      isplitl [Hx]; · iexact Hx
      isplitl [Hk]; · iexact Hk
      isplitl [Hf]; · iexact Hf
      isplitl [Hps]; · iexact Hps
      isplitl [Hpr]; · iexact Hpr
      isplitl [Hsp]; · iexact Hsp
      isplitl [Hg]; · iexact Hg
      isplitl [Hn]; · iexact Hn
      isplitr; · iexact Hkn
      iexact Hop
    iintro ⟨Ho, Hx, Hk, Hf, Hps, Hpr, -, Hn, #Hkl, Hsl⟩
    iapply HQ
    isplitl [Ho]; · iexact Ho
    unfold ringEnd
    isplitl [Hx]; · iexact Hx
    isplitl [Hk]; · iexact Hk
    isplitl [Hf]; · iexact Hf
    isplitl [Hf']; · iexact Hf'
    isplitl [Hps']; · iexact Hps'
    isplitl [Hps]; · iexact Hps
    isplitl [Hpr']; · iexact Hpr'
    isplitl [Hpr]; · iexact Hpr
    isplitl [Hsl]; · iexact Hsl
    isplitl [Hrd']; · iexact Hrd'
    isplitl [Hn]; · iexact Hn
    rw [show (know 31 d : sProp 𝕄) = iprop(entered d ∗ know 30 (left d)) from rfl]
    isplitr
    · ihave H := (know_back (show 0 ≤ 30 by decide) d) $$ Hkn
      rw [back_zero]; iexact H
    iexact Hkl
  | n + 1, s, h => by
    have hs : s ≤ 29 := by omega
    unfold ringFrom ringDue ringStep
    rw [wp_bind, wp_bind]
    unfold ringSt
    rw [bigSep_Ico_head (show s < 31 by omega)]
    iintro ⟨#HS, ⟨%W, Ho⟩, Hx, Hk, Hf, Hf', Hps, Hps', Hpr, Hpr', Hrd, Hrd', ⟨Hsp, Hsps⟩, Hgv, Hg, Hn, #Hkn, #Hpast, #Hop⟩ HQ
    iapply (wp_exchange (m := m) (K := K) (J := J) s _ d (creditDue s d ++ ringDue d n (s + 1))
      ((over_creditDue s d).append ((over_ringDue d n (s + 1) (by omega)).mono (show 2 * s + 2 ≤ 2 * (s + 1) + 1 by omega))) W) $$ [Ho Hx Hk Hf Hps Hpr Hsp Hg Hn]
    · isplitr; · iexact HS
      isplitl [Ho]; · iexact Ho
      isplitl [Hx]; · iexact Hx
      isplitl [Hk]; · iexact Hk
      isplitl [Hf]; · iexact Hf
      isplitl [Hps]; · iexact Hps
      isplitl [Hpr]; · iexact Hpr
      isplitl [Hsp]; · iexact Hsp
      isplitl [Hg]; · iexact Hg
      isplitl [Hn]; · iexact Hn
      isplitr; · iexact Hkn
      iexact Hop
    iintro ⟨⟨%W', Ho⟩, Hx, Hk, Hf, Hps, Hpr, Hg, Hn, #Hkl, Hsl⟩
    rw [wp_bind]
    iapply (wp_putStep (m := m) (s + 1) d _ (k0_pay5 (prod m s d) (sent m s (left d))) rfl) $$ Hf'
    iintro Hf'
    ihave Hpr := (Entails.of_eq (place_two (F := F) .recv s d)) $$ Hpr
    icases Hpr with ⟨Hpr, #Hrch⟩
    iapply (wp_freeStep (m := m) (K := K) (J := J) s hs d (ringDue d n (s + 1)) W') $$ [Ho Hrd Hsl Hgv]
    · isplitr; · iexact HS
      isplitl [Ho]; · iexact Ho
      isplitl [Hrd]; · iexact Hrd
      isplitl [Hsl]; · iexact Hsl
      isplitl [Hgv]; · iexact Hgv
      isplitr; · iexact Hpast
      iexact Hrch
    iintro ⟨Ho, Hrd, Hgv, #Hpast'⟩
    iapply (wp_ringFrom d Q n (s + 1) _) $$ [Ho Hx Hk Hf Hf' Hps Hps' Hpr Hpr' Hrd Hrd' Hsps Hgv Hg Hn] HQ
    isplitr; · iexact HS
    isplitl [Ho]; · iexact Ho
    unfold ringSt
    isplitl [Hx]; · iexact Hx
    isplitl [Hk]; · iexact Hk
    isplitl [Hf']; · iexact Hf'
    isplitl [Hf]; · unfold free; rw [par_two]; iexact Hf
    isplitl [Hps']; · iexact Hps'
    isplitl [Hps]; · iexact Hps
    isplitl [Hpr']; · iexact Hpr'
    isplitl [Hpr]
    · rw [place_two .recv s d]
      isplitl [Hpr]; · iexact Hpr
      iexact Hrch
    isplitl [Hrd']; · iexact Hrd'
    isplitl [Hrd]; · iexact Hrd
    isplitl [Hsps]; · iexact Hsps
    isplitl [Hgv]; · iexact Hgv
    isplitl [Hg]; · iexact Hg
    isplitl [Hn]; · iexact Hn
    isplitr
    · rw [know_succ s d]
      isplitr
      · ihave H := (know_back (show 0 ≤ s by omega) d) $$ Hkn
        rw [back_zero]; iexact H
      iexact Hkl
    isplitr; · iexact Hpast'
    iexact Hop

end Cert.KernelIdeal.Ring

end
-- ==== Proof.MaxStep.lean ====
/-
  The exchange of the maximum along one axis of the hypercube.
-/
module

public import proofs.«01_k».proof.Proof.RingStep

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.TalkSites (tallyL tallyL_pos tallyL_append)
open Idealize.ShloMosaic.SiteBlocks (L lv mem_L' mayWait_of)
open Cert.KernelIdeal.Gen

variable {F : FTy → Type} [FloatOps F]

local notation "𝕄" => MT nD τ sig ℕ (Elt F) ℕ UU ℕ

variable {m : (ℓ : Loc nD τ sig) → Buf (Elt F) ℓ} {K : Dev nD × CellK → ℕ} {J : SlotK → ℕ}

/-! ## The slots of the exchange -/

theorem load_axis (M : Memref sig .tc .vmem S5x8x128 .f32) (k : Fin 5) : M.view.setOn (axisR k).toLoadRect.set ⊆ (axisM M k).view.set := by
  rw [set_matrix]
theorem store_axis (M : Memref sig .tc .vmem S5x8x128 .f32) (k : Fin 5) : (M.access (axisR k)).setOn Finset.univ ⊆ (axisM M k).view.set := by
  rw [set_matrix]; exact subset_of_eq (View.set_slice M.view (axisR k))

theorem axr_credit (k : Fin 5) (q : DmaSem sig) : (axisM arM k).view.amount (.dma q) = Nax := by
  rw [View.amount_dma]; revert k; unfold Nax; intro k; rfl
theorem axs_credit (k : Fin 5) (q : DmaSem sig) : (axisM asM k).view.amount (.dma q) = Nax := by
  rw [View.amount_dma]; revert k; unfold Nax; intro k; rfl

theorem mem_axs (k : Fin 5) (d : Dev nD) : 0 ∈ (ringRd m).duties (cell d (.axs k)) 0 := by
  rw [duties_cell]; exact Finset.mem_singleton_self 0
theorem mem_axr (k : Fin 5) (d : Dev nD) : 0 ∈ (ringRd m).duties (cell d (.axr k)) 0 := by
  rw [duties_cell]; exact Finset.mem_singleton_self 0

theorem expect_axs (k : Fin 5) (d : Dev nD) : 0 + (axisM asM k).view.dmaCredit = (ringRd m).expect (cell d (.axs k)) 0 := by
  rw [expect_cell, show dutiesOf (.axs k) 0 = {0} from rfl, Finset.card_singleton, Nat.one_mul, Nat.zero_add]; exact axs_credit k (asS k)
theorem expect_axr (k : Fin 5) (d : Dev nD) : 0 + (axisM arM k).view.dmaCredit = (ringRd m).expect (cell d (.axr k)) 0 := by
  rw [expect_cell, show dutiesOf (.axr k) 0 = {0} from rfl, Finset.card_singleton, Nat.one_mul, Nat.zero_add]; exact axr_credit k (arS k)

theorem rest_axs (k : Fin 5) (d : Dev nD) :
    bigSep ((ringRd m).duties (cell d (.axs k)) 0 \ ∅) (fun j => (ringRd m).payload (cell d (.axs k)) 0 j) = iprop(∃ f, axsPts k d f) := by
  rw [Finset.sdiff_empty, duties_cell, show dutiesOf (.axs k) 0 = {0} from rfl, bigSep_singleton, payload_cell]; rfl
theorem rest_axr (k : Fin 5) (d : Dev nD) :
    bigSep ((ringRd m).duties (cell d (.axr k)) 0 \ ∅) (fun j => (ringRd m).payload (cell d (.axr k)) 0 j) = axLanded m k d := by
  rw [Finset.sdiff_empty, duties_cell, show dutiesOf (.axr k) 0 = {0} from rfl, bigSep_singleton, payload_cell]; rfl

/-- Once the transfer has left, the slot it left from is the device's again. -/
theorem axs_back (k : Fin 5) (d : Dev nD) (fs : Buf (Elt F) (asM.view.loc (d : Thread nD τ))) :
    ((axisM asM k).view.loc (d : Thread nD τ) ↦[(axisM asM k).view.set]{fullShare} fs)
      ⊢ (ringRd m).payload (cell d (.axs k)) 0 0 := by
  rw [payload_cell]
  show axsPts k d fs ⊢ iprop(∃ f, axsPts k d f)
  iintro H; iexists fs; iexact H

theorem partner_self (k : Fin 5) (d : Dev nD) : partner k (partner k d) = d := partner_partner k d

/-- The partner's slot holds what this device knew. -/
theorem axr_intro (k : Fin 5) (d : Dev nD) (fs : Buf (Elt F) (asM.view.loc (d : Thread nD τ)))
    (hf : asM.view.readAt (Elt F) (axisR k).toLoadRect fs = spread (most m k.val d)) (fd : Buf (Elt F) (arM.view.loc (partner k d : Thread nD τ))) :
    iprop(((axisM arM k).view.loc (partner k d : Thread nD τ) ↦[(axisM arM k).view.set]{fullShare}
        ((axisM arM k).view.write (Elt F) fd ((axisM asM k).view.read (Elt F) fs) Finset.univ)) ∗ emp)
      ⊢ (ringRd m).payload (cell (partner k d) (.axr k)) 0 0 := by
  rw [payload_cell]
  show iprop(axrPts k (partner k d) ((axisM arM k).view.write (Elt F) fd ((axisM asM k).view.read (Elt F) fs) Finset.univ) ∗ emp)
      ⊢ axLanded m k (partner k d)
  unfold axLanded
  rw [partner_self]
  iintro ⟨H, -⟩
  iexists _
  isplitr
  swap
  · iexact H
  · ipureintro
    exact (readAt_landing arM asM (axisR k) _ _ fd fs).trans hf

theorem axDue_head (k : Fin 5) (d : Dev nD) : axDue k.val d = axPay k (partner k d) :: axDue (k.val + 1) d := by
  unfold axDue
  rw [List.drop_eq_getElem_cons (by rw [List.length_finRange]; exact k.isLt), List.map_cons]
  congr 2 <;> simp [List.getElem_finRange]

theorem tallyL_ax (k : Fin 5) (d : Dev nD) :
    tallyL (axDue k.val d) = tallyL (axDue (k.val + 1) d) + tallyAt (cell (partner k d) (.axr k)) (100 + k.val) Nax := by
  rw [axDue_head]; exact tallyL_cons _ _

/-- What the exchange along axis `k` uses up, and what it leaves. -/
def axSpend (k : Fin 5) (d : Dev nD) : sProp 𝕄 :=
  iprop((∃ f, axsPts k d f) ∗ writeTok ES (partner k d, Sum.inr k) 1
    ∗ dutyTok ER (cell d (.axs k)) 0 0 ∗ dutyTok ER (cell (partner k d) (.axr k)) 0 0
    ∗ cred (tallyAt (cell d (.axr k)) (100 + k.val) Nax)
    ∗ atPos ER (cell d (.axs k)) 0 ∅ 0 ∗ atPos ER (cell d (.axr k)) 0 ∅ 0)
def axDone (k : Fin 5) (d : Dev nD) : sProp 𝕄 :=
  iprop((∃ f, axsPts k d f) ∗ (∃ f, axrPts k d f) ∗ atPos ER (cell d (.axs k)) 1 ∅ 0 ∗ atPos ER (cell d (.axr k)) 1 ∅ 0)

theorem wp_maxStep (k : Fin 5) (d : Dev nD) (W : Waits sig ℕ) (Q : Vec F S1x8x128 .f32 → sProp 𝕄) :
    iprop(shared m K J ∗ owes (d : Thread nD τ) (tallyL (axDue k.val d)) W ∗ axSpend k d ∗ entered (partner k d))
      ⊢ iprop((((∃ W, owes (d : Thread nD τ) (tallyL (axDue (k.val + 1) d)) W) ∗ axDone k d) -∗ Q (spread (most m k.val (partner k d))))
        -∗ wp frame (wpE (defs₀ (F := F)) 𝒱₀ (d : Thread nD τ) none) Set.univ (maxStep d k (most m k.val d)) Q) := by
  have hl : Over (100 + k.val) (axDue (k.val + 1) d) := (over_axDue (k.val + 1) d).mono (by omega)
  have hi2 : 100 + k.val < 200 := by omega
  have hw : shared m K J ⊢ MayWait (d : Thread nD τ) (csem (.axr k)) (100 + k.val) (tallyL (axDue (k.val + 1) d)) :=
    shared_lev.trans (mayWait d _ hl hi2)
  have ho0 : Over 0 (axDue (k.val + 1) d) := hl.mono (by omega)
  have hw0 : shared m K J ⊢ MayWait (d : Thread nD τ) (csem (.axs k)) 0 (tallyL (axDue (k.val + 1) d)) :=
    shared_lev.trans (mayWait d _ ho0 (by decide))
  unfold maxStep axSpend axDone axsPts entered
  simp only [Prog.lift, Prog.bind_op, Prog.bind_ret, Prog.pure_eq_ret]
  iintro ⟨#HS, Ho, ⟨⟨%f, Hs⟩, Hw, Ht1, Ht2, Hc2, Ha1, Ha2⟩, #He⟩ HQ
  ihave Hrel := (bigSep_one (Finset.mem_univ k) (Φ := fun j : Fin 5 => (released ES (partner k d, Sum.inr j) 1 : sProp 𝕄))) $$ []
  · iexact He
  icases Hrel with #Hrel
  iapply (wp_load 𝒱₀ (d : Thread nD τ) none Set.univ (m := asM) (load_axis asM k)) $$ Hs; iintro Hs
  iapply (wp_store 𝒱₀ (d : Thread nD τ) none Set.univ (m := asM) (r := axisR k) (Mk := Finset.univ) (store_axis asM k)) $$ Hs; iintro Hs
  ihave HJ := (shared_slot (m := m) (K := K) (J := J) (partner k d, Sum.inr k)) $$ HS
  imod (slot_take ES (Set.mem_univ _) 1) $$ [HJ Hw] with Hslot
  · isplitl [HJ]; · iexact HJ
    isplitr; · iexact Hrel
    iexact Hw
  unfold slotOf
  icases Hslot with ⟨%fd, Hd⟩
  iapply (Rounds.wp_send_pointsTo_with 𝒱₀ ER (ringRd m) (d : Thread nD τ) none (κ₁ := K (d, .axs k)) (κ₂ := K (partner k d, .axr k))
      (c' := (partner k d : Thread nD τ)) (src := axisM asM k) (dst := axisM arM k) (sS := csem (.axs k)) (sem := csem (.axr k))
      (r₁ := 0) (r₂ := 0) (d₁ := 0) (d₂ := 0) (fd := fd) (fs := (asM.access (axisR k)).write (Elt F) f (spread (most m k.val d)) Finset.univ) (F := iprop(emp))
      (mem_axs k d) (mem_axr k (partner k d)) (100 + k.val) 0 Nax (axr_credit k (arS k))
      (amount_cell m d (.axs k) _ _) (amount_cell m (partner k d) (.axr k) _ _) (tallyL (axDue (k.val + 1) d)) (tallyL_ax k d)
      (axs_back k d _) (axr_intro k d _ (readAt_stored asM (axisR k) f _) fd)) $$ [Ho Hs Hd Ht1 Ht2]
  · isplitr; · iapply (shared_cell d (.axs k)); iexact HS
    isplitr; · iapply (shared_cell (partner k d) (.axr k)); iexact HS
    isplitl [Hs]; · iexact Hs
    isplitl [Hd]
    · isplitl [Hd]; · unfold axrPts; iexact Hd
      iempintro
    isplitl [Ho]; · iexact Ho
    isplitl [Ht1]; · iexact Ht1
    isplitr; · iapply (shared_reached d (.axs k)); iexact HS
    isplitl [Ht2]; · iexact Ht2
    iapply (shared_reached (partner k d) (.axr k)); iexact HS
  iintro ⟨Hc1, Ho⟩
  iapply (Rounds.wp_wait_rest_token 𝒱₀ ER (ringRd m) (d : Thread nD τ) none (κ := K (d, .axs k)) (sm := csem (.axs k))
      (wpE_waitDma2_eq 𝒱₀ (d : Thread nD τ) none Set.univ) (Set.mem_univ _) 0 (O := tallyL (axDue (k.val + 1) d)) (W := W) (R := 0) (m := 0) (T := ∅)
      (expect_axs k d)) $$ [Ho Hc1 Ha1]
  · isplitr; · iapply (shared_cell d (.axs k)); iexact HS
    isplitl [Hc1]; · iexact Hc1
    isplitl [Ho]; · iexact Ho
    isplitr; · iapply hw0; iexact HS
    iexact Ha1
  iintro ⟨Ho, Ha1, -, Hp1⟩
  ihave Hf := (Entails.of_eq (rest_axs k d)) $$ Hp1
  iapply (Rounds.wp_wait_rest_token 𝒱₀ ER (ringRd m) (d : Thread nD τ) none (κ := K (d, .axr k)) (sm := csem (.axr k))
      (wpE_waitDma2_eq 𝒱₀ (d : Thread nD τ) none Set.univ) (Set.mem_univ _) (100 + k.val) (O := tallyL (axDue (k.val + 1) d)) (R := 0) (m := 0) (T := ∅)
      (expect_axr k d)) $$ [Ho Hc2 Ha2]
  · isplitr; · iapply (shared_cell d (.axr k)); iexact HS
    isplitl [Hc2]; · iexact Hc2
    isplitl [Ho]; · iexact Ho
    isplitr; · iapply hw; iexact HS
    iexact Ha2
  iintro ⟨Ho, Ha2, -, Hp2⟩
  ihave Hl := (Entails.of_eq (rest_axr k d)) $$ Hp2
  unfold axLanded axrPts
  icases Hl with ⟨%f', %hf', Hr⟩
  iapply (wp_load 𝒱₀ (d : Thread nD τ) none Set.univ (m := arM) (load_axis arM k)) $$ Hr; iintro Hr
  rw [wp_ret]; imodintro
  rw [hf']
  iapply HQ
  isplitl [Ho]; · iexists _; iexact Ho
  isplitl [Hf]; · unfold axsPts; iexact Hf
  isplitl [Hr]; · iexists f'; iexact Hr
  isplitl [Ha1]; · iexact Ha1
  iexact Ha2

end Cert.KernelIdeal.Ring

end
-- ==== Proof.Buffers.lean ====
/-
  Buffers and their slots: a buffer held whole is its slots held one by one.
-/
module

public import proofs.«01_k».proof.Proof.Protocol
public import Idealize.ShloMosaic.Lib.Ring

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.TalkSites (tallyL tallyL_pos tallyL_append)
open Idealize.ShloMosaic.SiteBlocks (L lv mem_L' mayWait_of)
open Cert.KernelIdeal.Gen

variable {F : FTy → Type} [FloatOps F]

local notation "𝕄" => MT nD τ sig ℕ (Elt F) ℕ UU ℕ

theorem setOn_whole (b : Ref sig .tc) (S : Finset b.ty.Idx) : (Memref.whole b : Memref sig .tc _ _ _).view.setOn S = S := by
  ext x
  simp [View.setOn, View.whole, Memref.whole]

/-! ## The two-slot buffers -/

theorem slot_disjoint (i j : Fin 2) (h : i ≠ j) : Disjoint (slotR i).set (slotR j).set :=
  Ring.lead_disjoint (s := S2x128x8192) 0 1 (fun i : Fin 2 => ![i.val, 0, 0]) S1x128x8192.size inb_slot (by decide) (by decide) i j h
theorem slot_cover : Finset.univ.biUnion (fun i : Fin 2 => (slotR i).set) = Finset.univ :=
  Ring.lead_cover (s := S2x128x8192) 0 1 (fun i : Fin 2 => ![i.val, 0, 0]) S1x128x8192.size inb_slot (by decide) (by decide) (by decide) (by decide) (by decide)
theorem axis_disjoint (i j : Fin 5) (h : i ≠ j) : Disjoint (axisR i).set (axisR j).set :=
  Ring.lead_disjoint (s := S5x8x128) 0 1 (fun i : Fin 5 => ![i.val, 0, 0]) S1x8x128.size inb_axis (by decide) (by decide) i j h
theorem axis_cover : Finset.univ.biUnion (fun i : Fin 5 => (axisR i).set) = Finset.univ :=
  Ring.lead_cover (s := S5x8x128) 0 1 (fun i : Fin 5 => ![i.val, 0, 0]) S1x8x128.size inb_axis (by decide) (by decide) (by decide) (by decide) (by decide)

theorem slot_set_s (i : Fin 2) : (slotM sM i).view.set = (slotR i).set := (set_matrix sM (slotR i) _ _).trans (setOn_whole _ _)
theorem slot_set_c (i : Fin 2) : (slotM cM i).view.set = (slotR i).set := (set_matrix cM (slotR i) _ _).trans (setOn_whole _ _)
theorem axis_set_s (k : Fin 5) : (axisM asM k).view.set = (axisR k).set := (set_matrix asM (axisR k) _ _).trans (setOn_whole _ _)
theorem axis_set_r (k : Fin 5) : (axisM arM k).view.set = (axisR k).set := (set_matrix arM (axisR k) _ _).trans (setOn_whole _ _)

section Pieces

variable {B : Type} [Fintype B] [DecidableEq B] {ℓ : Loc nD τ sig}

/-- A buffer at some contents is its pieces, each at some contents; -/
theorem split_pieces (I : B → Finset (Idx ℓ)) (P : B → Buf (Elt F) ℓ → sProp 𝕄) (hd : ∀ b b', b ≠ b' → Disjoint (I b) (I b')) (hc : Finset.univ.biUnion I = Finset.univ)
    (hP : ∀ b f, P b f = (ℓ ↦[I b]{fullShare} f : sProp 𝕄)) :
    iprop(∃ f : Buf (Elt F) ℓ, ℓ ↦{fullShare} f) ⊢ (bigSep Finset.univ fun b => iprop(∃ f, P b f) : sProp 𝕄) := by
  have h (f : Buf (Elt F) ℓ) : (ℓ ↦{fullShare} f : sProp 𝕄) ⊢ bigSep Finset.univ fun b => iprop(∃ f, P b f) := by
    rw [Ring.pointsTo_blocks I hd hc f]
    have h' (b : B) : (ℓ ↦[I b]{fullShare} f : sProp 𝕄) ⊢ iprop(∃ f, P b f) := by
      iintro H; iexists f; iapply (Entails.of_eq (hP b f).symm) $$ H
    exact bigSep_mono fun b _ => h' b
  iintro ⟨%f, H⟩
  iapply (h f) $$ H
/-- and back. -/
theorem join_pieces (I : B → Finset (Idx ℓ)) (P : B → Buf (Elt F) ℓ → sProp 𝕄) (hd : ∀ b b', b ≠ b' → Disjoint (I b) (I b')) (hc : Finset.univ.biUnion I = Finset.univ)
    (hP : ∀ b f, P b f = (ℓ ↦[I b]{fullShare} f : sProp 𝕄)) (f₀ : Buf (Elt F) ℓ) :
    (bigSep Finset.univ fun b => iprop(∃ f, P b f) : sProp 𝕄) ⊢ iprop(∃ f : Buf (Elt F) ℓ, ℓ ↦{fullShare} f) := by
  refine .trans (Entails.of_eq ?_) (Ring.pointsTo_blocks_join_exists I hd hc f₀)
  exact bigSep_congr fun b _ => congrArg _ (funext fun f => hP b f)

end Pieces

/-- A buffer of device `d`, whole, at some contents. -/
abbrev anyOf (d : Dev nD) (b : Ref sig .tc) : sProp 𝕄 := iprop(∃ f : Buf (Elt F) ((d : Thread nD τ).loc b), ((d : Thread nD τ).loc b) ↦{fullShare} f)

theorem sendPts_eq (d : Dev nD) (i : Fin 2) (f : Buf (Elt F) ((d : Thread nD τ).loc cc0_scratch1)) :
    (sendPts i d f : sProp 𝕄) = ((d : Thread nD τ).loc cc0_scratch1 ↦[(slotR i).set]{fullShare} f) := by
  unfold sendPts; rw [slot_set_s]
theorem recvPts_eq (d : Dev nD) (i : Fin 2) (f : Buf (Elt F) ((d : Thread nD τ).loc cc0_scratch2)) :
    (recvPts i d f : sProp 𝕄) = ((d : Thread nD τ).loc cc0_scratch2 ↦[(slotR i).set]{fullShare} f) := by
  unfold recvPts; rw [slot_set_c]
theorem axsPts_eq (d : Dev nD) (k : Fin 5) (f : Buf (Elt F) ((d : Thread nD τ).loc cc0_scratch6)) :
    (axsPts k d f : sProp 𝕄) = ((d : Thread nD τ).loc cc0_scratch6 ↦[(axisR k).set]{fullShare} f) := by
  unfold axsPts; rw [axis_set_s]
theorem axrPts_eq (d : Dev nD) (k : Fin 5) (f : Buf (Elt F) ((d : Thread nD τ).loc cc0_scratch7)) :
    (axrPts k d f : sProp 𝕄) = ((d : Thread nD τ).loc cc0_scratch7 ↦[(axisR k).set]{fullShare} f) := by
  unfold axrPts; rw [axis_set_r]

theorem split_send (d : Dev nD) : anyOf d cc0_scratch1 ⊢ (bigSep Finset.univ fun i : Fin 2 => iprop(∃ f, sendPts i d f) : sProp 𝕄) :=
  split_pieces (ℓ := (d : Thread nD τ).loc cc0_scratch1) (fun i : Fin 2 => (slotR i).set) (fun i f => sendPts i d f) slot_disjoint slot_cover (sendPts_eq d)
theorem join_send (d : Dev nD) : (bigSep Finset.univ fun i : Fin 2 => iprop(∃ f, sendPts i d f) : sProp 𝕄) ⊢ anyOf d cc0_scratch1 :=
  join_pieces (ℓ := (d : Thread nD τ).loc cc0_scratch1) (fun i : Fin 2 => (slotR i).set) (fun i f => sendPts i d f) slot_disjoint slot_cover (sendPts_eq d) fun _ => Classical.arbitrary _
theorem split_recv (d : Dev nD) : anyOf d cc0_scratch2 ⊢ (bigSep Finset.univ fun i : Fin 2 => iprop(∃ f, recvPts i d f) : sProp 𝕄) :=
  split_pieces (ℓ := (d : Thread nD τ).loc cc0_scratch2) (fun i : Fin 2 => (slotR i).set) (fun i f => recvPts i d f) slot_disjoint slot_cover (recvPts_eq d)
theorem join_recv (d : Dev nD) : (bigSep Finset.univ fun i : Fin 2 => iprop(∃ f, recvPts i d f) : sProp 𝕄) ⊢ anyOf d cc0_scratch2 :=
  join_pieces (ℓ := (d : Thread nD τ).loc cc0_scratch2) (fun i : Fin 2 => (slotR i).set) (fun i f => recvPts i d f) slot_disjoint slot_cover (recvPts_eq d) fun _ => Classical.arbitrary _
theorem split_axs (d : Dev nD) : anyOf d cc0_scratch6 ⊢ (bigSep Finset.univ fun i : Fin 5 => iprop(∃ f, axsPts i d f) : sProp 𝕄) :=
  split_pieces (ℓ := (d : Thread nD τ).loc cc0_scratch6) (fun i : Fin 5 => (axisR i).set) (fun i f => axsPts i d f) axis_disjoint axis_cover (axsPts_eq d)
theorem join_axs (d : Dev nD) : (bigSep Finset.univ fun i : Fin 5 => iprop(∃ f, axsPts i d f) : sProp 𝕄) ⊢ anyOf d cc0_scratch6 :=
  join_pieces (ℓ := (d : Thread nD τ).loc cc0_scratch6) (fun i : Fin 5 => (axisR i).set) (fun i f => axsPts i d f) axis_disjoint axis_cover (axsPts_eq d) fun _ => Classical.arbitrary _
theorem split_axr (d : Dev nD) : anyOf d cc0_scratch7 ⊢ (bigSep Finset.univ fun i : Fin 5 => iprop(∃ f, axrPts i d f) : sProp 𝕄) :=
  split_pieces (ℓ := (d : Thread nD τ).loc cc0_scratch7) (fun i : Fin 5 => (axisR i).set) (fun i f => axrPts i d f) axis_disjoint axis_cover (axrPts_eq d)
theorem join_axr (d : Dev nD) : (bigSep Finset.univ fun i : Fin 5 => iprop(∃ f, axrPts i d f) : sProp 𝕄) ⊢ anyOf d cc0_scratch7 :=
  join_pieces (ℓ := (d : Thread nD τ).loc cc0_scratch7) (fun i : Fin 5 => (axisR i).set) (fun i f => axrPts i d f) axis_disjoint axis_cover (axrPts_eq d) fun _ => Classical.arbitrary _

end Cert.KernelIdeal.Ring

end
-- ==== Proof.Enter.lean ====
/-
  Before the ring: a device offers its slots, meets its neighbours at the barrier, and puts its first product in place.
-/
module

public import proofs.«01_k».proof.Proof.MaxStep
public import proofs.«01_k».proof.Proof.Buffers

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.TalkSites (tallyL tallyL_pos tallyL_append)
open Idealize.ShloMosaic.SiteBlocks (L lv mem_L' mayWait_of)
open Cert.KernelIdeal.Gen

variable {F : FTy → Type} [FloatOps F]

local notation "𝕄" => MT nD τ sig ℕ (Elt F) ℕ UU ℕ

variable {m : (ℓ : Loc nD τ sig) → Buf (Elt F) ℓ} {K : Dev nD × CellK → ℕ} {J : SlotK → ℕ}

theorem bigSep_two (Φ : Fin 2 → sProp 𝕄) : bigSep Finset.univ Φ = iprop(Φ 0 ∗ Φ 1) :=
  bigSep_univ_eq_bigSepL [0, 1] (by decide) (by decide) Φ
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-! ## Offering the slots -/

theorem axr_axr_false (k : Fin 5) (d : Dev nD) : iprop((∃ f, axrPts k d f) ∗ (∃ f, axrPts k d f)) ⊢ (False : sProp 𝕄) := by
  exact slot_slot_false ((axisM arM k).view.set_nonempty (by decide))

/-- One slot is offered: it goes to its invariant, and the fact stays. -/
theorem offer (d : Dev nD) (x : Fin 2 ⊕ Fin 5) :
    iprop(shared m K J ∗ readerAt ES (d, x) 0 ∗ slotOf (d, x)) ⊢ (|={Set.univ}=> iprop(readerAt ES (d, x) 1 ∗ released ES (d, x) 1) : sProp 𝕄) := by
  have hf : iprop(slotOf (d, x) ∗ slotOf (d, x)) ⊢ (False : sProp 𝕄) := by
    cases x with
    | inl i => exact pts_pts_false i d
    | inr k => exact axr_axr_false k d
  iintro ⟨#HS, Hr, Hs⟩
  ihave HJ := (shared_slot (m := m) (K := K) (J := J) (d, x)) $$ HS
  iapply (slot_release ES (Set.mem_univ _) hf 0) $$ [HJ Hr Hs]
  isplitl [HJ]; · iexact HJ
  isplitl [Hr]; · iexact Hr
  iexact Hs

/-- The two slots of the ring are offered to the left neighbour. -/
theorem offer_ring (d : Dev nD) :
    iprop(shared m K J ∗ (bigSep Finset.univ fun i : Fin 2 => readerAt ES (d, Sum.inl i) 0) ∗ bigSep Finset.univ fun i : Fin 2 => iprop(∃ f, recvPts i d f))
      ⊢ (|={Set.univ}=> iprop((readerAt ES (d, Sum.inl 0) 1 ∗ readerAt ES (d, Sum.inl 1) 1) ∗ opened d) : sProp 𝕄) := by
  rw [bigSep_two, bigSep_two]
  iintro ⟨#HS, ⟨Hr0, Hr1⟩, Hs0, Hs1⟩
  imod (offer (m := m) (K := K) (J := J) d (Sum.inl 0)) $$ [Hr0 Hs0] with ⟨Hr0, #Hq0⟩
  · isplitr; · iexact HS
    isplitl [Hr0]; · iexact Hr0
    unfold slotOf; iexact Hs0
  imod (offer (m := m) (K := K) (J := J) d (Sum.inl 1)) $$ [Hr1 Hs1] with ⟨Hr1, #Hq1⟩
  · isplitr; · iexact HS
    isplitl [Hr1]; · iexact Hr1
    unfold slotOf; iexact Hs1
  imodintro
  isplitl [Hr0 Hr1]
  · isplitl [Hr0]; · iexact Hr0
    iexact Hr1
  unfold opened
  isplitr; · iexact Hq0
  iexact Hq1

/-- The slots of the exchanges are offered to everyone. -/
theorem offer_axes (d : Dev nD) :
    iprop(shared m K J ∗ (bigSep Finset.univ fun k : Fin 5 => readerAt ES (d, Sum.inr k) 0) ∗ bigSep Finset.univ fun k : Fin 5 => iprop(∃ f, axrPts k d f))
      ⊢ (|={Set.univ}=> entered d : sProp 𝕄) := by
  have h (k : Fin 5) : iprop(shared m K J ∗ readerAt ES (d, Sum.inr k) 0 ∗ (∃ f, axrPts k d f))
      ⊢ (|={Set.univ}=> released ES (d, Sum.inr k) 1 : sProp 𝕄) := by
    refine (offer d (Sum.inr k)).trans (BI.fupd_mono ?_)
    iintro ⟨-, H⟩; iexact H
  have hS : shared m K J ⊢ bigSep (Finset.univ : Finset (Fin 5)) fun _ => shared m K J := BI.bigSep_of_persistent Finset.univ (shared m K J)
  refine (sep_mono_left hS).trans ?_
  rw [← bigSep_sep', ← bigSep_sep']
  exact (bigSep_mono fun k _ => h k).trans (bigSep_fupd _ _)

/-! ## The barrier -/

theorem bar_duty (c : Dev nD) (j : ℕ) (hj : j = 0 ∨ j = 1) : j ∈ (ringRd m).duties (cell c .bar) 0 := by
  rw [duties_cell]; rcases hj with rfl | rfl <;> decide

theorem payload_bar_left (d : Dev nD) : (ringRd m).payload ((left d : Thread nD τ), .reg barS) 0 1 = opened d := by
  rw [show (((left d : Thread nD τ), .reg barS) : GSem nD τ sig) = cell (left d) .bar from rfl, payload_cell]
  show (if 1 = 1 then opened (right (left d)) else iprop(emp)) = opened d
  rw [if_pos rfl, right_left]
theorem payload_bar_right (d : Dev nD) : (ringRd m).payload ((right d : Thread nD τ), .reg barS) 0 0 = iprop(emp) := by
  rw [show (((right d : Thread nD τ), .reg barS) : GSem nD τ sig) = cell (right d) .bar from rfl, payload_cell]
  show (if 0 = 1 then opened (right (right d)) else iprop(emp)) = iprop(emp)
  rw [if_neg (by decide)]

theorem rest_bar (d : Dev nD) :
    bigSep ((ringRd m).duties (cell d .bar) 0 \ ∅) (fun j => (ringRd m).payload (cell d .bar) 0 j) = iprop(emp ∗ opened (right d)) := by
  rw [Finset.sdiff_empty, duties_cell, show dutiesOf .bar 0 = {0, 1} from rfl, bigSep_insert (by decide), bigSep_singleton, payload_cell, payload_cell]
  rfl

theorem tallyL_bar (c : Dev nD) (l) : tallyL (barPay c :: l) = tallyL l + tallyAt (cell c .bar) 1 1 := tallyL_cons _ _

theorem expect_bar (d : Dev nD) : 0 + (2#32).toNat = (ringRd m).expect (cell d .bar) 0 := by
  rw [expect_cell]; decide

theorem wp_barrierStep (d : Dev nD) (W : Waits sig ℕ) (Q : PUnit → sProp 𝕄) :
    iprop(shared m K J ∗ owes (d : Thread nD τ) (tallyL (allDue d)) W ∗ dutyTok ER (cell (left d) .bar) 0 1 ∗ dutyTok ER (cell (right d) .bar) 0 0
        ∗ cred (tallyAt (cell d .bar) 1 2) ∗ atPos ER (cell d .bar) 0 ∅ 0 ∗ opened d)
      ⊢ iprop((((∃ W, owes (d : Thread nD τ) (tallyL (ringDue d 30 0)) W) ∗ atPos ER (cell d .bar) 1 ∅ 0 ∗ opened (right d)) -∗ Q ⟨⟩)
        -∗ wp frame (wpE (defs₀ (F := F)) 𝒱₀ (d : Thread nD τ) none) Set.univ (barrierStep d) Q) := by
  have ho : Over 1 (ringDue d 30 0) := over_ringDue d 30 0 rfl
  have hw : shared m K J ⊢ MayWait (d : Thread nD τ) (csem .bar) 1 (tallyL (ringDue d 30 0)) :=
    shared_lev.trans (mayWait d _ ho (by decide))
  unfold barrierStep allDue
  rw [tallyL_bar, tallyL_bar]
  simp only [semSignalWord, semWaitWord, Prog.lift, Prog.bind_op, Prog.bind_ret, Prog.pure_eq_ret]
  iintro ⟨#HS, Ho, Ht1, Ht0, Hc, Hat, #Hop⟩ HQ
  iapply (Rounds.wp_signal 𝒱₀ ER (ringRd m) (d : Thread nD τ) none (dst := (left d : Thread nD τ)) (sem := barS) (κ := K (left d, .bar)) (r := 0)
      (d := 1) (bar_duty (left d) 1 (.inr rfl)) ((amount_cell m (left d) .bar 0 1).trans (by decide)) 1
      (tallyL (ringDue d 30 0) + tallyAt (cell (right d) .bar) 1 1) rfl) $$ [Ho Ht1]
  · isplitr; · iapply (shared_cell (left d) .bar); iexact HS
    isplitl [Ho]; · iexact Ho
    isplitl [Ht1]; · iexact Ht1
    isplitr
    · rw [payload_bar_left]; iexact Hop
    iapply (shared_reached (left d) .bar); iexact HS
  iintro Ho
  iapply (Rounds.wp_signal 𝒱₀ ER (ringRd m) (d : Thread nD τ) none (dst := (right d : Thread nD τ)) (sem := barS) (κ := K (right d, .bar)) (r := 0)
      (d := 0) (bar_duty (right d) 0 (.inl rfl)) ((amount_cell m (right d) .bar 0 0).trans (by decide)) 1
      (tallyL (ringDue d 30 0)) rfl) $$ [Ho Ht0]
  · isplitr; · iapply (shared_cell (right d) .bar); iexact HS
    isplitl [Ho]; · iexact Ho
    isplitl [Ht0]; · iexact Ht0
    isplitr
    · rw [payload_bar_right]; iempintro
    iapply (shared_reached (right d) .bar); iexact HS
  iintro Ho
  iapply (Rounds.wp_wait_rest_token 𝒱₀ ER (ringRd m) (d : Thread nD τ) none (κ := K (d, .bar)) (sm := csem .bar)
      (wpE_semWait_eq 𝒱₀ (d : Thread nD τ) none Set.univ) (Set.mem_univ _) 1 (O := tallyL (ringDue d 30 0)) (W := W) (R := 0) (m := 0) (T := ∅)
      (expect_bar d)) $$ [Ho Hc Hat]
  · isplitr; · iapply (shared_cell d .bar); iexact HS
    isplitl [Hc]; · iexact Hc
    isplitl [Ho]; · iexact Ho
    isplitr; · iapply hw; iexact HS
    iexact Hat
  iintro ⟨Ho, Hat, -, Hp⟩
  ihave Hp := (Entails.of_eq (rest_bar d)) $$ Hp
  icases Hp with ⟨-, #Hor⟩
  rw [wp_ret]; imodintro
  iapply HQ
  isplitl [Ho]; · iexists _; iexact Ho
  isplitl [Hat]; · iexact Hat
  iexact Hor

/-! ## The first product -/

/-- The right operand's rows as they were brought in. -/
def wPts (m : (ℓ : Loc nD τ sig) → Buf (Elt F) ℓ) (d : Dev nD) : sProp 𝕄 := wM.view.loc (d : Thread nD τ) ↦{fullShare} wIn m d

theorem read_full_w (f : (cc0_stg1_0 : Ref sig .tc).ty.Contents (Elt F)) : wM.view.readAt (Elt F) fullR.toLoadRect f = f :=
  Memref.readAt_unit_zero (Elt F) cc0_stg1_0 zero_off _ f
theorem write_full_k (f w : (cc0_scratch0 : Ref sig .tc).ty.Contents (Elt F)) :
    (kM.access fullR : View sig .tc _ _ _).write (Elt F) f w Finset.univ = w :=
  Memref.write_access_unit_zero_univ (Elt F) cc0_scratch0 zero_off _ f w

theorem wp_openStep (d : Dev nD) (Q : PUnit → sProp 𝕄) :
    iprop(xPts m d ∗ wPts m d ∗ anyOf d cc0_scratch0 ∗ free 0 d)
      ⊢ iprop(((xPts m d ∗ wPts m d ∗ kPts m d ∗ full m 0 d) -∗ Q ⟨⟩)
        -∗ wp frame (wpE (defs₀ (F := F)) 𝒱₀ (d : Thread nD τ) none) Set.univ (openStep d) Q) := by
  unfold openStep xPts wPts kPts free full sendPts
  simp only [Prog.lift, Prog.bind_op, Prog.bind_ret, Prog.pure_eq_ret]
  iintro ⟨Hx, Hw, ⟨%fk, Hk⟩, ⟨%f, Hs⟩⟩ HQ
  iapply (wp_load 𝒱₀ (d : Thread nD τ) none Set.univ (m := wM) (Finset.subset_univ _)) $$ Hw; iintro Hw
  iapply (wp_load 𝒱₀ (d : Thread nD τ) none Set.univ (m := kM) (Finset.subset_univ _)) $$ Hk; iintro Hk
  iapply (wp_store 𝒱₀ (d : Thread nD τ) none Set.univ (m := kM) (r := fullR) (Mk := Finset.univ) (Finset.subset_univ _)) $$ Hk; iintro Hk
  iapply (wp_load 𝒱₀ (d : Thread nD τ) none Set.univ (m := xM) (Finset.subset_univ _)) $$ Hx; iintro Hx
  iapply (wp_load 𝒱₀ (d : Thread nD τ) none Set.univ (m := kM) (Finset.subset_univ _)) $$ Hk; iintro Hk
  iapply (wp_load 𝒱₀ (d : Thread nD τ) none Set.univ (m := sM) (load_slot sM (par 0))) $$ Hs; iintro Hs
  iapply (wp_store 𝒱₀ (d : Thread nD τ) none Set.univ (m := sM) (r := slotR (par 0)) (Mk := Finset.univ) (store_slot sM (par 0))) $$ Hs; iintro Hs
  rw [read_full_w, write_full_k, read_full_k]
  rw [wp_ret]; imodintro
  iapply HQ
  isplitl [Hx]; · iexact Hx
  isplitl [Hw]; · iexact Hw
  isplitl [Hk]; · iexact Hk
  iexists _
  isplitr
  swap
  · iexact Hs
  · ipureintro
    exact readAt_stored sM (slotR (par 0)) f _

end Cert.KernelIdeal.Ring

end
-- ==== Proof.Close.lean ====
/-
  The exchanges of the maxima, the closing of the counters, and the whole body of a device.
-/
module

public import proofs.«01_k».proof.Proof.Enter

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.TalkSites (tallyL tallyL_pos tallyL_append)
open Idealize.ShloMosaic.SiteBlocks (L lv mem_L' mayWait_of)
open Cert.KernelIdeal.Gen

variable {F : FTy → Type} [FloatOps F]

local notation "𝕄" => MT nD τ sig ℕ (Elt F) ℕ UU ℕ

variable {m : (ℓ : Loc nD τ sig) → Buf (Elt F) ℓ} {K : Dev nD × CellK → ℕ} {J : SlotK → ℕ}

/-! ## The exchanges -/

theorem most_one (d : Dev nD) : k0_pay69 (most m 0 d) (spread (most m 0 (partner 0 d))) = most m 1 d := (most_succ m 0 d).symm
theorem most_two (d : Dev nD) : k0_pay69 (most m 1 d) (spread (most m 1 (partner 1 d))) = most m 2 d := (most_succ m 1 d).symm
theorem most_three (d : Dev nD) : k0_pay69 (most m 2 d) (spread (most m 2 (partner 2 d))) = most m 3 d := (most_succ m 2 d).symm
theorem most_four (d : Dev nD) : k0_pay69 (most m 3 d) (spread (most m 3 (partner 3 d))) = most m 4 d := (most_succ m 3 d).symm

/-- The result's buffer, holding the result. -/
def oPts (m : (ℓ : Loc nD τ sig) → Buf (Elt F) ℓ) (d : Dev nD) : sProp 𝕄 := oM.view.loc (d : Thread nD τ) ↦{fullShare} result m d

theorem write_full_o (f w : (cc0_stg2_0 : Ref sig .tc).ty.Contents (Elt F)) :
    (oM.access fullR : View sig .tc _ _ _).write (Elt F) f w Finset.univ = w :=
  Memref.write_access_unit_zero_univ (Elt F) cc0_stg2_0 zero_off _ f w

theorem wp_closeStep (d : Dev nD) (Q : PUnit → sProp 𝕄) :
    anyOf d cc0_stg2_0 ⊢ iprop((oPts m d -∗ Q ⟨⟩)
        -∗ wp frame (wpE (defs₀ (F := F)) 𝒱₀ (d : Thread nD τ) none) Set.univ (closeStep (result m d)) Q) := by
  unfold closeStep oPts
  simp only [Prog.lift, Prog.bind_op, Prog.bind_ret, Prog.pure_eq_ret]
  iintro ⟨%f, H⟩ HQ
  iapply (wp_load 𝒱₀ (d : Thread nD τ) none Set.univ (m := oM) (Finset.subset_univ _)) $$ H; iintro H
  iapply (wp_store 𝒱₀ (d : Thread nD τ) none Set.univ (m := oM) (r := fullR) (Mk := Finset.univ) (Finset.subset_univ _)) $$ H; iintro H
  rw [write_full_o]
  rw [wp_ret]; imodintro
  iapply HQ; iexact H

theorem wp_maxPart (d : Dev nD) (Q : PUnit → sProp 𝕄) :
    iprop(shared m K J ∗ (∃ W, owes (d : Thread nD τ) (tallyL (axDue 0 d)) W) ∗ (bigSep Finset.univ fun k => axSpend k d) ∗ know 31 d ∗ anyOf d cc0_stg2_0)
      ⊢ iprop((((∃ W, owes (d : Thread nD τ) 0 W) ∗ (bigSep Finset.univ fun k => axDone k d) ∗ oPts m d) -∗ Q ⟨⟩)
        -∗ wp frame (wpE (defs₀ (F := F)) 𝒱₀ (d : Thread nD τ) none) Set.univ (maxPart d (rows m d) (most m 0 d)) Q) := by
  unfold maxPart
  rw [bigSep_five, bigSep_five]
  iintro ⟨#HS, ⟨%W, Ho⟩, ⟨H0, H1, H2, H3, H4⟩, #Hk, Hout⟩ HQ
  rw [wp_bind]
  iapply (wp_maxStep (m := m) (K := K) (J := J) 0 d W) $$ [Ho H0]
  · isplitr; · iexact HS
    isplitl [Ho]; · iexact Ho
    isplitl [H0]; · iexact H0
    iapply (know_all d _) $$ Hk
  iintro ⟨⟨%W, Ho⟩, D0⟩
  rw [show k0_pay69 (most m 0 d) (spread (most m (0 : Fin 5).val (partner 0 d))) = most m (1 : Fin 5).val d from most_one d, wp_bind]
  iapply (wp_maxStep (m := m) (K := K) (J := J) 1 d W) $$ [Ho H1]
  · isplitr; · iexact HS
    isplitl [Ho]; · iexact Ho
    isplitl [H1]; · iexact H1
    iapply (know_all d _) $$ Hk
  iintro ⟨⟨%W, Ho⟩, D1⟩
  rw [show k0_pay69 (most m (1 : Fin 5).val d) (spread (most m (1 : Fin 5).val (partner 1 d))) = most m (2 : Fin 5).val d from most_two d, wp_bind]
  iapply (wp_maxStep (m := m) (K := K) (J := J) 2 d W) $$ [Ho H2]
  · isplitr; · iexact HS
    isplitl [Ho]; · iexact Ho
    isplitl [H2]; · iexact H2
    iapply (know_all d _) $$ Hk
  iintro ⟨⟨%W, Ho⟩, D2⟩
  rw [show k0_pay69 (most m (2 : Fin 5).val d) (spread (most m (2 : Fin 5).val (partner 2 d))) = most m (3 : Fin 5).val d from most_three d, wp_bind]
  iapply (wp_maxStep (m := m) (K := K) (J := J) 3 d W) $$ [Ho H3]
  · isplitr; · iexact HS
    isplitl [Ho]; · iexact Ho
    isplitl [H3]; · iexact H3
    iapply (know_all d _) $$ Hk
  iintro ⟨⟨%W, Ho⟩, D3⟩
  rw [show k0_pay69 (most m (3 : Fin 5).val d) (spread (most m (3 : Fin 5).val (partner 3 d))) = most m (4 : Fin 5).val d from most_four d, wp_bind]
  iapply (wp_maxStep (m := m) (K := K) (J := J) 4 d W) $$ [Ho H4]
  · isplitr; · iexact HS
    isplitl [Ho]; · iexact Ho
    isplitl [H4]; · iexact H4
    iapply (know_all d _) $$ Hk
  iintro ⟨⟨%W, Ho⟩, D4⟩
  iapply (wp_closeStep (m := m) d) $$ Hout
  iintro Hout
  iapply HQ
  isplitl [Ho]; · iexists W; iexact Ho
  isplitr [Hout]
  · isplitl [D0]; · iexact D0
    isplitl [D1]; · iexact D1
    isplitl [D2]; · iexact D2
    isplitl [D3]; · iexact D3
    iexact D4
  iexact Hout

/-! ## The counters at the end -/

theorem sep_shift (P Q R : sProp 𝕄) : iprop((P ∗ Q) ∗ R) = iprop(P ∗ Q ∗ R) := equiv_iff.mp ⟨BI.sep_assoc, BI.sep_assoc'⟩

/-- The cells of a device, kind by kind. -/
theorem bigSep_kinds (Φ : CellK → sProp 𝕄) :
    bigSep Finset.univ Φ = iprop((bigSep Finset.univ fun i => Φ (.send i)) ∗ (bigSep Finset.univ fun i => Φ (.recv i))
      ∗ (bigSep Finset.univ fun k => Φ (.axs k)) ∗ (bigSep Finset.univ fun k => Φ (.axr k)) ∗ Φ .credit ∗ Φ .bar) := by
  rw [bigSep_univ_eq_bigSepL cells (by decide) (by decide) Φ, bigSep_two, bigSep_two, bigSep_five, bigSep_five]
  simp only [sep_shift]
  rfl

theorem close_cell (c : Dev nD) (k : CellK) (R : ℕ) (hR : ∀ r, R ≤ r → dutiesOf k r = ∅) :
    iprop(shared m K J ∗ atPos ER (cell c k) R ∅ 0) ⊢ (|={Set.univ}=> semVal (cell c k) 0 : sProp 𝕄) := by
  iintro ⟨#HS, H⟩
  ihave Hc := (shared_cell (m := m) (K := K) (J := J) c k) $$ HS
  iapply (Rounds.cell_close ER (ringRd m) (Set.mem_univ (K (c, k))) (fun h => h) (R := R) (duties_after m c k R hR)) $$ [Hc H]
  isplitl [Hc]; · iexact Hc
  iexact H

theorem close_credit (d : Dev nD) :
    iprop(shared m K J ∗ counted 29 d) ⊢ (|={Set.univ}=> semVal (cell d .credit) 0 : sProp 𝕄) := by
  unfold counted
  iintro ⟨#HS, %S, %h, H, -⟩
  have hS : (ringRd m).duties (cell d .credit) 0 ⊆ S := by
    rw [duties_cell, show dutiesOf .credit 0 = Finset.range 29 from rfl]
    have h0 : (Finset.range 29 \ S).card = 0 := by have := h.1; omega
    exact Finset.sdiff_eq_empty_iff_subset.mp (Finset.card_eq_zero.mp h0)
  have he : 29 = (ringRd m).expect (cell d .credit) 0 := by
    rw [expect_cell, show dutiesOf .credit 0 = Finset.range 29 from rfl, Finset.card_range]; rfl
  ihave Hc := (shared_cell (m := m) (K := K) (J := J) d .credit) $$ HS
  imod (Rounds.fupd_skip ER (ringRd m) hS he (Set.mem_univ (K (d, .credit)))) $$ [Hc H] with ⟨H, -⟩
  · isplitl [Hc]; · iexact Hc
    iexact H
  iapply (close_cell (m := m) (K := K) (J := J) d .credit 1 (fun r hr => if_neg (by omega))) $$ [H]
  isplitr; · iexact HS
  iexact H

/-- Two cells of the ring, at the ends of their rounds. -/
theorem close_two (d : Dev nD) (k : Fin 2 → CellK) (hk : ∀ i r, dutiesOf (k i) r = if 2 * r + i.val < 31 then {0} else ∅) :
    iprop(shared m K J ∗ place k 31 d ∗ place k 32 d) ⊢ (|={Set.univ}=> bigSep Finset.univ fun i => semVal (cell d (k i)) 0 : sProp 𝕄) := by
  rw [bigSep_two]
  unfold place
  iintro ⟨#HS, ⟨H1, -⟩, ⟨H0, -⟩⟩
  imod (close_cell (m := m) (K := K) (J := J) d (k 0) 16 (fun r hr => by rw [hk]; exact if_neg (by omega))) $$ [H0] with Z0
  · isplitr; · iexact HS
    iexact H0
  imod (close_cell (m := m) (K := K) (J := J) d (k 1) 15 (fun r hr => by rw [hk]; exact if_neg (by show ¬ (2 * r + 1 < 31); omega))) $$ [H1] with Z1
  · isplitr; · iexact HS
    iexact H1
  imodintro
  isplitl [Z0]; · iexact Z0
  iexact Z1

/-- The cells of the exchanges. -/
theorem close_five (d : Dev nD) (k : Fin 5 → CellK) (hk : ∀ i r, dutiesOf (k i) r = if r = 0 then {0} else ∅) :
    iprop(shared m K J ∗ bigSep Finset.univ fun i => atPos ER (cell d (k i)) 1 ∅ 0) ⊢ (|={Set.univ}=> bigSep Finset.univ fun i => semVal (cell d (k i)) 0 : sProp 𝕄) := by
  have h (i : Fin 5) : iprop(shared m K J ∗ atPos ER (cell d (k i)) 1 ∅ 0) ⊢ (|={Set.univ}=> semVal (cell d (k i)) 0 : sProp 𝕄) :=
    close_cell d (k i) 1 (fun r hr => by rw [hk]; exact if_neg (by omega))
  have hS : shared m K J ⊢ bigSep (Finset.univ : Finset (Fin 5)) fun _ => shared m K J := BI.bigSep_of_persistent Finset.univ (shared m K J)
  refine (sep_mono_left hS).trans ?_
  rw [← bigSep_sep']
  exact (bigSep_mono fun i _ => h i).trans (bigSep_fupd _ _)

end Cert.KernelIdeal.Ring

end
-- ==== Proof.Body.lean ====
/-
  The whole body of a device: what it starts from and what it ends with.
-/
module

public import proofs.«01_k».proof.Proof.Close

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.TalkSites (tallyL tallyL_pos tallyL_append)
open Idealize.ShloMosaic.SiteBlocks (L lv mem_L' mayWait_of)
open Cert.KernelIdeal.Gen

variable {F : FTy → Type} [FloatOps F]

local notation "𝕄" => MT nD τ sig ℕ (Elt F) ℕ UU ℕ

variable {m : (ℓ : Loc nD τ sig) → Buf (Elt F) ℓ} {K : Dev nD × CellK → ℕ} {J : SlotK → ℕ}

/-- What the exchange along axis `k` uses up, without the slot. -/
def axTok (k : Fin 5) (d : Dev nD) : sProp 𝕄 :=
  iprop(writeTok ES (partner k d, Sum.inr k) 1
    ∗ dutyTok ER (cell d (.axs k)) 0 0 ∗ dutyTok ER (cell (partner k d) (.axr k)) 0 0
    ∗ cred (tallyAt (cell d (.axr k)) (100 + k.val) Nax))

/-- Every right a device uses up. -/
def tokens (d : Dev nD) : sProp 𝕄 :=
  iprop(dutyTok ER (cell (left d) .bar) 0 1 ∗ dutyTok ER (cell (right d) .bar) 0 0 ∗ cred (tallyAt (cell d .bar) 1 2)
    ∗ (bigSep (Finset.Ico 0 31) fun t => spend t d) ∗ (bigSep (Finset.Ico 0 29) fun j => giveTok j d)
    ∗ (bigSep (Finset.Ico 0 29) fun j => getCred j d) ∗ bigSep Finset.univ fun k => axTok k d)
/-- As the reader of its own slots, before anything. -/
def readers (d : Dev nD) : sProp 𝕄 :=
  iprop((bigSep Finset.univ fun i : Fin 2 => readerAt ES (d, Sum.inl i) 0) ∗ bigSep Finset.univ fun k : Fin 5 => readerAt ES (d, Sum.inr k) 0)
/-- At its own cells, before anything. -/
def places (d : Dev nD) : sProp 𝕄 := bigSep Finset.univ fun k => atPos ER (cell d k) 0 ∅ 0
/-- Its own counters, at zero. -/
def counters (d : Dev nD) : sProp 𝕄 := bigSep Finset.univ fun k => semVal (cell d k) 0
/-- Its scratch buffers, at whatever contents. -/
def scratches (d : Dev nD) : sProp 𝕄 :=
  iprop(anyOf d cc0_scratch0 ∗ anyOf d cc0_scratch1 ∗ anyOf d cc0_scratch2 ∗ anyOf d cc0_scratch6 ∗ anyOf d cc0_scratch7)

/-- What the exchanges start from, gathered. -/
theorem axSpend_all (d : Dev nD) :
    iprop((bigSep Finset.univ fun k => iprop(∃ f, axsPts k d f)) ∗ (bigSep Finset.univ fun k => axTok k d)
        ∗ (bigSep Finset.univ fun k => atPos ER (cell d (.axs k)) 0 ∅ 0) ∗ (bigSep Finset.univ fun k => atPos ER (cell d (.axr k)) 0 ∅ 0))
      ⊢ (bigSep Finset.univ fun k => axSpend k d : sProp 𝕄) := by
  have h (k : Fin 5) : iprop((∃ f, axsPts k d f) ∗ axTok k d ∗ atPos ER (cell d (.axs k)) 0 ∅ 0 ∗ atPos ER (cell d (.axr k)) 0 ∅ 0) ⊢ (axSpend k d : sProp 𝕄) := by
    unfold axTok axSpend
    iintro ⟨Hs, ⟨H1, H2, H3, H4⟩, H5, H6⟩
    isplitl [Hs]; · iexact Hs
    isplitl [H1]; · iexact H1
    isplitl [H2]; · iexact H2
    isplitl [H3]; · iexact H3
    isplitl [H4]; · iexact H4
    isplitl [H5]; · iexact H5
    iexact H6
  rw [← bigSep_sep', ← bigSep_sep', ← bigSep_sep']
  exact bigSep_mono fun k _ => h k

/-- What the exchanges end with, apart. -/
theorem axDone_all (d : Dev nD) :
    (bigSep Finset.univ fun k => axDone k d : sProp 𝕄)
      ⊢ iprop((bigSep Finset.univ fun k => iprop(∃ f, axsPts k d f)) ∗ (bigSep Finset.univ fun k => iprop(∃ f, axrPts k d f))
        ∗ (bigSep Finset.univ fun k => atPos ER (cell d (.axs k)) 1 ∅ 0) ∗ (bigSep Finset.univ fun k => atPos ER (cell d (.axr k)) 1 ∅ 0)) := by
  rw [← bigSep_sep', ← bigSep_sep', ← bigSep_sep']
  exact .rfl

/-- The places of the ring's cells before step 0. -/
theorem places_ring (d : Dev nD) (k : Fin 2 → CellK) :
    iprop(shared m K J ∗ bigSep Finset.univ fun i => atPos ER (cell d (k i)) 0 ∅ 0) ⊢ (iprop(place k 0 d ∗ place k 1 d) : sProp 𝕄) := by
  rw [bigSep_two]
  unfold place
  iintro ⟨#HS, H0, H1⟩
  isplitl [H0]
  · isplitl [H0]; · iexact H0
    iapply (shared_reached d (k 0)) $$ HS
  · isplitl [H1]; · iexact H1
    iapply (shared_reached d (k 1)) $$ HS

/-- Before step 0. -/
theorem ring_start (d : Dev nD) :
    iprop(xPts m d ∗ kPts m d ∗ full m 0 d ∗ free 1 d ∗ (place .send 0 d ∗ place .send 1 d) ∗ (place .recv 0 d ∗ place .recv 1 d)
        ∗ (readerAt ES (d, Sum.inl 0) 1 ∗ readerAt ES (d, Sum.inl 1) 1)
        ∗ (bigSep (Finset.Ico 0 31) fun t => spend t d) ∗ (bigSep (Finset.Ico 0 29) fun j => giveTok j d) ∗ (bigSep (Finset.Ico 0 29) fun j => getCred j d)
        ∗ atPos ER (cell d .credit) 0 ∅ 0 ∗ entered d ∗ opened (right d))
      ⊢ ringSt m 0 d := by
  unfold ringSt
  iintro ⟨Hx, Hk, Hf, Hf', ⟨Hps, Hps'⟩, ⟨Hpr, Hpr'⟩, ⟨Hr, Hr'⟩, Hsp, Hgv, Hg, Hc, He, Ho⟩
  isplitl [Hx]; · iexact Hx
  isplitl [Hk]; · iexact Hk
  isplitl [Hf]; · iexact Hf
  isplitl [Hf']; · iexact Hf'
  isplitl [Hps]; · iexact Hps
  isplitl [Hps']; · iexact Hps'
  isplitl [Hpr]; · iexact Hpr
  isplitl [Hpr']; · iexact Hpr'
  isplitl [Hr]
  · rw [show reader 0 d = (readerAt ES (d, Sum.inl 0) 1 : sProp 𝕄) from rfl]; iexact Hr
  isplitl [Hr']
  · rw [show reader (0 + 1) d = (readerAt ES (d, Sum.inl 1) 1 : sProp 𝕄) from rfl]; iexact Hr'
  isplitl [Hsp]; · iexact Hsp
  isplitl [Hgv]; · iexact Hgv
  isplitl [Hg]; · iexact Hg
  isplitl [Hc]
  · unfold counted
    iexists ∅
    isplitr; · ipureintro; exact ⟨by decide, by decide⟩
    isplitl [Hc]; · iexact Hc
    rw [bigSep_empty]; iempintro
  isplitl [He]; · unfold know; iexact He
  isplitr; · unfold past; iempintro
  iexact Ho

/-- After the last exchange: the counters go to zero and the buffers come back whole. -/
theorem finish (d : Dev nD) :
    iprop(shared m K J ∗ ringEnd (m := m) d ∗ (bigSep Finset.univ fun k => axDone k d) ∗ atPos ER (cell d .bar) 1 ∅ 0)
      ⊢ (|={Set.univ}=> iprop(xPts m d ∗ scratches d ∗ counters d) : sProp 𝕄) := by
  have hc : (iprop((∃ f, recvPts (par 30) d f) ∗ reader 31 d) : sProp 𝕄) ⊢ anyOf d cc0_scratch2 :=
    .trans (.of_eq (bigSep_two fun i => iprop(∃ f, recvPts i d f)).symm) (join_recv d)
  have hs : (iprop(free 30 d ∗ free 31 d) : sProp 𝕄) ⊢ anyOf d cc0_scratch1 :=
    .trans (.of_eq (bigSep_two fun i => iprop(∃ f, sendPts i d f)).symm) (join_send d)
  iintro ⟨#HS, He, Hd, Hb⟩
  unfold ringEnd
  icases He with ⟨Hx, Hk, Hf, Hf', Hps, Hps', Hpr, Hpr', Hl, Hr, Hn, -⟩
  ihave Hd := (axDone_all (F := F) d) $$ Hd
  icases Hd with ⟨Has, Har, Hpa, Hpb⟩
  imod (close_two (m := m) (K := K) (J := J) d .send (fun _ _ => rfl)) $$ [Hps Hps'] with Z0
  · isplitr; · iexact HS
    isplitl [Hps]; · iexact Hps
    iexact Hps'
  imod (close_two (m := m) (K := K) (J := J) d .recv (fun _ _ => rfl)) $$ [Hpr Hpr'] with Z1
  · isplitr; · iexact HS
    isplitl [Hpr]; · iexact Hpr
    iexact Hpr'
  imod (close_five (m := m) (K := K) (J := J) d .axs (fun _ _ => rfl)) $$ [Hpa] with Z2
  · isplitr; · iexact HS
    iexact Hpa
  imod (close_five (m := m) (K := K) (J := J) d .axr (fun _ _ => rfl)) $$ [Hpb] with Z3
  · isplitr; · iexact HS
    iexact Hpb
  imod (close_credit (m := m) (K := K) (J := J) d) $$ [Hn] with Z4
  · isplitr; · iexact HS
    iexact Hn
  imod (close_cell (m := m) (K := K) (J := J) d .bar 1 (fun r hr => if_neg (by omega))) $$ [Hb] with Z5
  · isplitr; · iexact HS
    iexact Hb
  imodintro
  isplitl [Hx]; · iexact Hx
  isplitr [Z0 Z1 Z2 Z3 Z4 Z5]
  · unfold scratches
    isplitl [Hk]; · unfold kPts; iexists _; iexact Hk
    isplitl [Hf Hf']
    · iapply hs; isplitl [Hf]; · iexact Hf
      iexact Hf'
    isplitl [Hl Hr]
    · iapply hc; isplitl [Hl]; · iexact Hl
      iexact Hr
    isplitl [Has]; · iapply (join_axs d) $$ Has
    iapply (join_axr d) $$ Har
  unfold counters
  rw [bigSep_kinds]
  isplitl [Z0]; · iexact Z0
  isplitl [Z1]; · iexact Z1
  isplitl [Z2]; · iexact Z2
  isplitl [Z3]; · iexact Z3
  isplitl [Z4]; · iexact Z4
  iexact Z5

theorem wp_program (d : Dev nD) (W : Waits sig ℕ) (Q : PUnit → sProp 𝕄) :
    iprop(shared m K J ∗ owes (d : Thread nD τ) (tallyL (allDue d)) W ∗ tokens d ∗ readers d ∗ places d
        ∗ xPts m d ∗ wPts m d ∗ anyOf d cc0_stg2_0 ∗ scratches d)
      ⊢ iprop((((∃ W, owes (d : Thread nD τ) 0 W) ∗ xPts m d ∗ wPts m d ∗ oPts m d ∗ scratches d ∗ counters d) -∗ Q ⟨⟩)
        -∗ wp frame (wpE (defs₀ (F := F)) 𝒱₀ (d : Thread nD τ) none) Set.univ program Q) := by
  have hs : anyOf d cc0_scratch1 ⊢ (iprop(free 0 d ∗ free 1 d) : sProp 𝕄) :=
    (split_send d).trans (.of_eq (bigSep_two fun i => iprop(∃ f, sendPts i d f)))
  unfold program
  simp only [Prog.lift, Prog.bind_op, Prog.bind_ret, Prog.pure_eq_ret]
  iintro ⟨#HS, Ho, Ht, Hr, Hp, Hx, Hw, Hout, Hscr⟩ HQ
  unfold tokens readers places scratches
  icases Ht with ⟨Hb1, Hb0, Hbc, Hsp, Hgv, Hg, Hax⟩
  icases Hr with ⟨Hri, Hrk⟩
  icases Hscr with ⟨Hs0, Hs1, Hs2, Hs6, Hs7⟩
  ihave Hp := (Entails.of_eq (bigSep_kinds (F := F) (fun k => atPos ER (cell d k) 0 ∅ 0))) $$ Hp
  icases Hp with ⟨Hps, Hpr, Hpa, Hpb, Hpc, Hpbar⟩
  ihave Hs1 := hs $$ Hs1
  icases Hs1 with ⟨Hf, Hf'⟩
  ihave Hs2 := (split_recv (F := F) d) $$ Hs2
  ihave Hs6 := (split_axs (F := F) d) $$ Hs6
  ihave Hs7 := (split_axr (F := F) d) $$ Hs7
  imod (offer_ring (m := m) (K := K) (J := J) d) $$ [Hri Hs2] with ⟨Hrd, #Hop⟩
  · isplitr; · iexact HS
    isplitl [Hri]; · iexact Hri
    iexact Hs2
  imod (offer_axes (m := m) (K := K) (J := J) d) $$ [Hrk Hs7] with #Hen
  · isplitr; · iexact HS
    isplitl [Hrk]; · iexact Hrk
    iexact Hs7
  rw [wp_deviceId, wp_bind]
  iapply (wp_barrierStep (m := m) (K := K) (J := J) d W) $$ [Ho Hb1 Hb0 Hbc Hpbar]
  · isplitr; · iexact HS
    isplitl [Ho]; · iexact Ho
    isplitl [Hb1]; · iexact Hb1
    isplitl [Hb0]; · iexact Hb0
    isplitl [Hbc]; · iexact Hbc
    isplitl [Hpbar]; · iexact Hpbar
    iexact Hop
  iintro ⟨Ho, Hpbar, #Hor⟩
  rw [wp_bind]
  iapply (wp_openStep (m := m) d) $$ [Hx Hw Hs0 Hf]
  · isplitl [Hx]; · iexact Hx
    isplitl [Hw]; · iexact Hw
    isplitl [Hs0]; · iexact Hs0
    iexact Hf
  iintro ⟨Hx, Hw, Hk, Hf⟩
  rw [wp_bind]
  ihave Hps := (places_ring (m := m) (K := K) (J := J) d .send) $$ [Hps]
  · isplitr; · iexact HS
    iexact Hps
  ihave Hpr := (places_ring (m := m) (K := K) (J := J) d .recv) $$ [Hpr]
  · isplitr; · iexact HS
    iexact Hpr
  iapply (wp_ringFrom (m := m) (K := K) (J := J) d _ 30 0 rfl) $$ [Ho Hx Hk Hf Hf' Hps Hpr Hrd Hsp Hgv Hg Hpc]
  · isplitr; · iexact HS
    isplitl [Ho]; · iexact Ho
    iapply (ring_start (m := m) d)
    isplitl [Hx]; · iexact Hx
    isplitl [Hk]; · iexact Hk
    isplitl [Hf]; · iexact Hf
    isplitl [Hf']; · iexact Hf'
    isplitl [Hps]; · iexact Hps
    isplitl [Hpr]; · iexact Hpr
    isplitl [Hrd]; · iexact Hrd
    isplitl [Hsp]; · iexact Hsp
    isplitl [Hgv]; · iexact Hgv
    isplitl [Hg]; · iexact Hg
    isplitl [Hpc]; · iexact Hpc
    isplitr; · iexact Hen
    iexact Hor
  iintro ⟨Ho, He⟩
  ihave #Hkn := (show ringEnd (m := m) d ⊢ iprop(know 31 d) by
    unfold ringEnd; iintro ⟨-, -, -, -, -, -, -, -, -, -, -, H⟩; iexact H) $$ He
  ihave Hax := (axSpend_all (F := F) d) $$ [Hs6 Hax Hpa Hpb]
  · isplitl [Hs6]; · iexact Hs6
    isplitl [Hax]; · iexact Hax
    isplitl [Hpa]; · iexact Hpa
    iexact Hpb
  iapply (wp_fupd)
  iapply (wp_maxPart (m := m) (K := K) (J := J) d) $$ [Ho Hax Hout]
  · isplitr; · iexact HS
    isplitl [Ho]; · iexact Ho
    isplitl [Hax]; · iexact Hax
    isplitr; · iexact Hkn
    iexact Hout
  iintro ⟨Ho, Hd, Hout⟩
  imod (finish (m := m) (K := K) (J := J) d) $$ [He Hd Hpbar] with ⟨Hx, Hscr, Hz⟩
  · isplitr; · iexact HS
    isplitl [He]; · iexact He
    isplitl [Hd]; · iexact Hd
    iexact Hpbar
  imodintro
  iapply HQ
  isplitl [Ho]; · iexact Ho
  isplitl [Hx]; · iexact Hx
  isplitl [Hw]; · iexact Hw
  isplitl [Hout]; · iexact Hout
  unfold scratches
  isplitl [Hscr]; · iexact Hscr
  iexact Hz

end Cert.KernelIdeal.Ring

end
-- ==== Proof.Deal.lean ====
/-
  The rights of the protocol, made at the launch and dealt to the devices that use them.
-/
module

public import proofs.«01_k».proof.Proof.Body

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.TalkSites (tallyL tallyL_pos tallyL_append)
open Idealize.ShloMosaic.SiteBlocks (L lv mem_L' mayWait_of)
open Cert.KernelIdeal.Gen

variable {F : FTy → Type} [FloatOps F]

local notation "𝕄" => MT nD τ sig ℕ (Elt F) ℕ UU ℕ

variable (m : (ℓ : Loc nD τ sig) → Buf (Elt F) ℓ)

/-! ## Which rights there are -/

/-- The rights to pay into a device's cells: its barrier's two, the 31 of its sends, the 31 of its landings, the 29 credits,
    and the two of each exchange. -/
abbrev TokK : Type := Fin 2 ⊕ Fin 31 ⊕ Fin 31 ⊕ Fin 29 ⊕ Fin 5 ⊕ Fin 5

def tokAt : TokK → CellK × ℕ × ℕ
  | .inl b => (.bar, 0, b.val)
  | .inr (.inl s) => (.send (par s.val), s.val / 2, 0)
  | .inr (.inr (.inl s)) => (.recv (par s.val), s.val / 2, 0)
  | .inr (.inr (.inr (.inl j))) => (.credit, 0, j.val)
  | .inr (.inr (.inr (.inr (.inl k)))) => (.axs k, 0, 0)
  | .inr (.inr (.inr (.inr (.inr k)))) => (.axr k, 0, 0)

theorem step_inj {s s' : ℕ} (h : par s = par s') (h' : s / 2 = s' / 2) : s = s' := by
  have h1 := step_eq s; have h2 := step_eq s'; rw [h, h'] at h1; exact h1.symm.trans h2

theorem tokAt_inj : Function.Injective tokAt := by
  rintro (b | s | s | j | k | k) (b' | s' | s' | j' | k' | k') h <;> simp only [tokAt, Prod.mk.injEq, CellK.send.injEq, CellK.recv.injEq,
    CellK.axs.injEq, CellK.axr.injEq, reduceCtorEq, false_and, true_and, and_true] at h
  · rw [Fin.ext h]
  · rw [Fin.ext (step_inj h.1 h.2)]
  · rw [Fin.ext (step_inj h.1 h.2)]
  · rw [Fin.ext h]
  · rw [h]
  · rw [h]

def tokOf : Dev nD × TokK ↪ GSem nD τ sig × ℕ × ℕ where
  toFun x := (cell x.1 (tokAt x.2).1, (tokAt x.2).2)
  inj' := fun x y h => by
    obtain ⟨h', h3⟩ := Prod.mk.inj h
    obtain ⟨h1, h2⟩ := Prod.mk.inj h'
    exact Prod.ext (congrArg (fun t : Thread nD τ => t.1) h1) (tokAt_inj (Prod.ext (csem_inj h2) h3))

def cellOfDev : Dev nD × CellK ↪ GSem nD τ sig where
  toFun x := cell x.1 x.2
  inj' := fun x y h => Prod.ext (congrArg (fun z => z.1.1) h) (csem_inj (congrArg Prod.snd h))

def ringCells : Finset (GSem nD τ sig) := Finset.univ.map cellOfDev
def ringToks : Finset (GSem nD τ sig × ℕ × ℕ) := Finset.univ.map tokOf

/-! ## Dealing them -/

/-- The rights to pay that device `d` uses. -/
def dutyRights (d : Dev nD) : sProp 𝕄 :=
  iprop(dutyTok ER (cell (right d) .bar) 0 0 ∗ dutyTok ER (cell (left d) .bar) 0 1
    ∗ (bigSep Finset.univ fun s : Fin 31 => dutyTok ER (cell d (.send (par s.val))) (s.val / 2) 0)
    ∗ (bigSep Finset.univ fun s : Fin 31 => dutyTok ER (cell (right d) (.recv (par s.val))) (s.val / 2) 0)
    ∗ (bigSep Finset.univ fun j : Fin 29 => dutyTok ER (cell (left d) .credit) 0 j.val)
    ∗ (bigSep Finset.univ fun k : Fin 5 => dutyTok ER (cell d (.axs k)) 0 0)
    ∗ bigSep Finset.univ fun k : Fin 5 => dutyTok ER (cell (partner k d) (.axr k)) 0 0)
/-- The rights to write that it uses. -/
def writeRights (d : Dev nD) : sProp 𝕄 :=
  iprop((bigSep Finset.univ fun s : Fin 31 => writeTok ES (right d, Sum.inl (par s.val)) (s.val / 2 + 1))
    ∗ bigSep Finset.univ fun k : Fin 5 => writeTok ES (partner k d, Sum.inr k) 1)

omit [FloatOps F] in
theorem around (e : Dev nD ≃ Dev nD) (Φ : Dev nD → sProp 𝕄) : bigSep Finset.univ Φ ⊢ bigSep Finset.univ fun d => Φ (e d) :=
  .of_eq (bigSep_univ_equiv e Φ)

def axisE : Dev nD × Fin 5 ≃ Dev nD × Fin 5 :=
  Function.Involutive.toPerm (fun x => (partner x.2 x.1, x.2)) fun x => Prod.ext (partner_partner x.2 x.1) rfl

omit [FloatOps F] in
theorem across (Φ : Dev nD → Fin 5 → sProp 𝕄) :
    (bigSep Finset.univ fun d => bigSep Finset.univ fun k => Φ d k) ⊢ bigSep Finset.univ fun d => bigSep Finset.univ fun k => Φ (partner k d) k := by
  refine .of_eq ?_
  rw [← bigSep_univ_prod (fun x : Dev nD × Fin 5 => Φ x.1 x.2), bigSep_univ_equiv axisE, bigSep_univ_prod]
  rfl

theorem deal_duties : (bigSep ringToks fun x => dutyTok ER x.1 x.2.1 x.2.2 : sProp 𝕄) ⊢ bigSep Finset.univ fun d => dutyRights d := by
  have h : (bigSep ringToks fun x => dutyTok ER x.1 x.2.1 x.2.2 : sProp 𝕄)
      = bigSep Finset.univ fun c : Dev nD => iprop((dutyTok ER (cell c .bar) 0 0 ∗ dutyTok ER (cell c .bar) 0 1)
        ∗ (bigSep Finset.univ fun s : Fin 31 => dutyTok ER (cell c (.send (par s.val))) (s.val / 2) 0)
        ∗ (bigSep Finset.univ fun s : Fin 31 => dutyTok ER (cell c (.recv (par s.val))) (s.val / 2) 0)
        ∗ (bigSep Finset.univ fun j : Fin 29 => dutyTok ER (cell c .credit) 0 j.val)
        ∗ (bigSep Finset.univ fun k : Fin 5 => dutyTok ER (cell c (.axs k)) 0 0)
        ∗ bigSep Finset.univ fun k : Fin 5 => dutyTok ER (cell c (.axr k)) 0 0) := by
    unfold ringToks
    rw [bigSep_map, bigSep_univ_prod]
    refine bigSep_congr fun c _ => ?_
    rw [bigSep_univ_sum, bigSep_univ_sum, bigSep_univ_sum, bigSep_univ_sum, bigSep_univ_sum]
    exact congrArg₂ BI.sep (bigSep_two _) rfl
  refine (Entails.of_eq h).trans ?_
  unfold dutyRights
  rw [bigSep_sep', bigSep_sep', bigSep_sep', bigSep_sep', bigSep_sep', bigSep_sep', bigSep_sep', bigSep_sep', bigSep_sep', bigSep_sep', bigSep_sep', bigSep_sep']
  iintro ⟨⟨H0, H1⟩, Hs, Hr, Hc, Ha, Hb⟩
  isplitl [H0]; · iapply (around rightE (fun c => (dutyTok ER (cell c .bar) 0 0 : sProp 𝕄))) $$ H0
  isplitl [H1]; · iapply (around leftE (fun c => (dutyTok ER (cell c .bar) 0 1 : sProp 𝕄))) $$ H1
  isplitl [Hs]; · iexact Hs
  isplitl [Hr]
  · iapply (around rightE (fun c => (bigSep Finset.univ fun s : Fin 31 => dutyTok ER (cell c (.recv (par s.val))) (s.val / 2) 0 : sProp 𝕄))) $$ Hr
  isplitl [Hc]
  · iapply (around leftE (fun c => (bigSep Finset.univ fun j : Fin 29 => dutyTok ER (cell c .credit) 0 j.val : sProp 𝕄))) $$ Hc
  isplitl [Ha]; · iexact Ha
  iapply (across (fun c k => (dutyTok ER (cell c (.axr k)) 0 0 : sProp 𝕄))) $$ Hb

/-- The write of a landing slot: by whom it is taken, in which turn. -/
def turnOf : Dev nD × (Fin 31 ⊕ Fin 5) ↪ SlotK × ℕ where
  toFun
    | (c, .inl s) => ((c, .inl (par s.val)), s.val / 2)
    | (c, .inr k) => ((c, .inr k), 0)
  inj' := by
    rintro ⟨c, s | k⟩ ⟨c', s' | k'⟩ h
    · have h1 : c = c' := congrArg (fun z => z.1.1) h
      have h2 : par s.val = par s'.val := Sum.inl.inj (congrArg (fun z => z.1.2) h)
      have h3 : s.val / 2 = s'.val / 2 := congrArg Prod.snd h
      rw [h1, Fin.ext (step_inj h2 h3)]
    · have h2 : (Sum.inl (par s.val) : Fin 2 ⊕ Fin 5) = .inr k' := congrArg (fun z => z.1.2) h
      cases h2
    · have h2 : (Sum.inr k : Fin 2 ⊕ Fin 5) = .inl (par s'.val) := congrArg (fun z => z.1.2) h
      cases h2
    · have h1 : c = c' := congrArg (fun z => z.1.1) h
      have h2 : k = k' := Sum.inr.inj (congrArg (fun z => z.1.2) h)
      rw [h1, h2]

omit [FloatOps F] in
theorem deal_writes : (bigSep (Finset.univ ×ˢ Finset.range 16) fun x : SlotK × ℕ => writeTok ES x.1 (x.2 + 1) : sProp 𝕄)
    ⊢ bigSep Finset.univ fun d => writeRights d := by
  have hsub : (Finset.univ.map turnOf) ⊆ (Finset.univ ×ˢ Finset.range 16 : Finset (SlotK × ℕ)) := fun x hx => by
    obtain ⟨⟨c, s | k⟩, -, rfl⟩ := Finset.mem_map.mp hx
    · exact Finset.mem_product.mpr ⟨Finset.mem_univ _, Finset.mem_range.mpr (show s.val / 2 < 16 by omega)⟩
    · exact Finset.mem_product.mpr ⟨Finset.mem_univ _, Finset.mem_range.mpr (show 0 < 16 by omega)⟩
  have h : (bigSep (Finset.univ.map turnOf) fun x : SlotK × ℕ => writeTok ES x.1 (x.2 + 1) : sProp 𝕄)
      = bigSep Finset.univ fun c : Dev nD => iprop((bigSep Finset.univ fun s : Fin 31 => writeTok ES (c, Sum.inl (par s.val)) (s.val / 2 + 1))
        ∗ bigSep Finset.univ fun k : Fin 5 => writeTok ES (c, Sum.inr k) 1) := by
    rw [bigSep_map, bigSep_univ_prod]
    exact bigSep_congr fun c _ => by rw [bigSep_univ_sum]; rfl
  refine (bigSep_subset hsub).trans ((Entails.of_eq h).trans ?_)
  unfold writeRights
  rw [bigSep_sep', bigSep_sep']
  iintro ⟨H0, H1⟩
  isplitl [H0]
  · iapply (around rightE (fun c => (bigSep Finset.univ fun s : Fin 31 => writeTok ES (c, Sum.inl (par s.val)) (s.val / 2 + 1) : sProp 𝕄))) $$ H0
  iapply (across (fun c k => (writeTok ES (c, Sum.inr k) 1 : sProp 𝕄))) $$ H1

/-! ## Everything at once -/

/-- What all devices share, without the levels. -/
def common (K : Dev nD × CellK → ℕ) (J : SlotK → ℕ) : sProp 𝕄 :=
  iprop((bigSep Finset.univ fun x : Dev nD × CellK => cellInv ER (ringRd m) (K x) (cell x.1 x.2))
    ∗ (bigSep Finset.univ fun x : Dev nD × CellK => reached ER (cell x.1 x.2) 0)
    ∗ (bigSep Finset.univ fun x : SlotK => slotInv ES (J x) x (slotOf x)))

instance common_persistent (K J) : BI.Persistent (common m K J) := by unfold common; infer_instance

/-- What a device gets. -/
def dealt (d : Dev nD) : sProp 𝕄 := iprop(places d ∗ readers d ∗ dutyRights d ∗ writeRights d)
def share (d : Dev nD) : sProp 𝕄 := iprop(∃ K J, common m K J ∗ dealt d)

/-- What they are made of. -/
def mint : sProp 𝕄 := iprop(BI.own (ER (initOf ringCells ringToks)) ∗ BI.own (ES (initSlots Finset.univ 16)))

theorem cells_alloc :
    iprop((bigSep Finset.univ fun x : Dev nD × CellK => semVal (cell x.1 x.2) 0) ∗ bigSep Finset.univ fun x : Dev nD × CellK => roundState ER (ringRd m) (cell x.1 x.2) 0)
      ⊢ (|={Set.univ}=> ∃ K : Dev nD × CellK → ℕ, bigSep Finset.univ fun x : Dev nD × CellK => cellInv ER (ringRd m) (K x) (cell x.1 x.2) : sProp 𝕄) := by
  have h (x : Dev nD × CellK) : iprop(semVal (cell x.1 x.2) 0 ∗ roundState ER (ringRd m) (cell x.1 x.2) 0)
      ⊢ (|={Set.univ}=> ∃ κ : ℕ, cellInv ER (ringRd m) κ (cell x.1 x.2) : sProp 𝕄) :=
    (Rounds.body_intro ER (ringRd m) (cell x.1 x.2)).trans inv_alloc
  rw [← bigSep_sep']
  have h' := BI.bigSep_exists_pi Finset.univ (fun (x : Dev nD × CellK) (κ : ℕ) => (cellInv ER (ringRd m) κ (cell x.1 x.2) : sProp 𝕄))
  have h'' : (bigSep Finset.univ fun x : Dev nD × CellK => iprop(semVal (cell x.1 x.2) 0 ∗ roundState ER (ringRd m) (cell x.1 x.2) 0) : sProp 𝕄)
      ⊢ |={Set.univ}=> bigSep Finset.univ fun x : Dev nD × CellK => iprop(∃ κ : ℕ, cellInv ER (ringRd m) κ (cell x.1 x.2)) :=
    (bigSep_mono fun x _ => h x).trans (bigSep_fupd _ _)
  iintro H
  imod h'' $$ H with H
  imodintro
  iapply h' $$ H

theorem deal_all : iprop((bigSep Finset.univ fun d => counters d) ∗ mint) ⊢ (|={Set.univ}=> bigSep Finset.univ fun d => share m d : sProp 𝕄) := by
  have hX (Φ : GSem nD τ sig → sProp 𝕄) : bigSep ringCells Φ = bigSep Finset.univ fun x : Dev nD × CellK => Φ (cell x.1 x.2) := by
    unfold ringCells; rw [bigSep_map]; rfl
  have hV : (bigSep Finset.univ fun d => counters d : sProp 𝕄) = bigSep Finset.univ fun x : Dev nD × CellK => semVal (cell x.1 x.2) 0 := by
    rw [bigSep_univ_prod]; rfl
  have hP : (bigSep ringCells fun g => atPos ER g 0 ∅ 0 : sProp 𝕄) = bigSep Finset.univ fun d => places d := by
    rw [hX, bigSep_univ_prod]; rfl
  have hR : (bigSep Finset.univ fun x : SlotK => readerAt ES x 0 : sProp 𝕄) = bigSep Finset.univ fun d => readers d := by
    rw [bigSep_univ_prod]; exact bigSep_congr fun c _ => by rw [bigSep_univ_sum]; rfl
  unfold mint
  iintro ⟨Hv, Hr, Hs⟩
  imod (Rounds.fund ER (ringRd m) ringCells ringToks) $$ Hr with ⟨Hst, Hre, Hat, Htok⟩
  imod (slots_init ES Finset.univ 16 slotOf (Es := Set.univ)) $$ Hs with ⟨%J, -, #Hsl, Hrd, Hwr⟩
  ihave Hst := (Entails.of_eq (hX fun g => roundState ER (ringRd m) g 0)) $$ Hst
  ihave #Hre := (Entails.of_eq (hX fun g => reached ER g 0)) $$ Hre
  ihave Hat := (Entails.of_eq hP) $$ Hat
  ihave Hv := (Entails.of_eq hV) $$ Hv
  ihave Hrd := (Entails.of_eq hR) $$ Hrd
  ihave Htok := (deal_duties (F := F)) $$ Htok
  ihave Hwr := (deal_writes (F := F)) $$ Hwr
  imod (cells_alloc m) $$ [Hv Hst] with ⟨%K, #Hin⟩
  · isplitl [Hv]; · iexact Hv
    iexact Hst
  imodintro
  have hg (d : Dev nD) : iprop(common m K J ∗ dealt d) ⊢ share m d := by
    unfold share; iintro H; iexists K; iexists J; iexact H
  have hS : common m K J ⊢ bigSep (Finset.univ : Finset (Dev nD)) fun _ => common m K J := BI.bigSep_of_persistent Finset.univ _
  have hall : iprop(common m K J ∗ bigSep Finset.univ fun d => dealt d) ⊢ bigSep Finset.univ fun d => share m d := by
    refine (sep_mono_left hS).trans ?_
    rw [← bigSep_sep']
    exact bigSep_mono fun d _ => hg d
  iapply hall
  isplitr
  · unfold common
    isplitr; · iexact Hin
    isplitr; · iexact Hre
    iexact Hsl
  unfold dealt
  rw [bigSep_sep', bigSep_sep', bigSep_sep']
  isplitl [Hat]; · iexact Hat
  isplitl [Hrd]; · iexact Hrd
  isplitl [Htok]; · iexact Htok
  iexact Hwr

end Cert.KernelIdeal.Ring

end
-- ==== Proof.Rights.lean ====
/-
  What the devices owe at launch, counted by who is owed; and every right a device uses, put together.
-/
module

public import proofs.«01_k».proof.Proof.Deal
public import Idealize.ShloMosaic.Lib.Pipeline.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.TalkSites (tallyL tallyL_pos tallyL_append)
open Idealize.ShloMosaic.SiteBlocks (L lv mem_L' mayWait_of)
open Cert.KernelIdeal.Gen

variable {F : FTy → Type} [FloatOps F]

local notation "𝕄" => MT nD τ sig ℕ (Elt F) ℕ UU ℕ

/-! ## What is owed -/

def barT (c : Dev nD) : CellTallies nD τ sig ℕ := tallyAt (cell c .bar) 1 1
def recvT (s : ℕ) (c : Dev nD) : CellTallies nD τ sig ℕ := tallyAt (cell c (.recv (par s))) (2 * s + 2) Nslot
def creditT (j : ℕ) (c : Dev nD) : CellTallies nD τ sig ℕ := tallyAt (cell c .credit) (2 * j + 3) 1
def axT (k : Fin 5) (c : Dev nD) : CellTallies nD τ sig ℕ := tallyAt (cell c (.axr k)) (100 + k.val) Nax

theorem sum_head {a b : ℕ} (h : a < b) (f : ℕ → CellTallies nD τ sig ℕ) : ∑ i ∈ Finset.Ico a b, f i = f a + ∑ i ∈ Finset.Ico (a + 1) b, f i := by
  rw [show Finset.Ico a b = insert a (Finset.Ico (a + 1) b) by ext x; simp only [Finset.mem_insert, Finset.mem_Ico]; omega, Finset.sum_insert (by simp)]

theorem tallyL_axDue (d : Dev nD) : tallyL (axDue 0 d) = ∑ k, axT k (partner k d) := by
  rw [Fin.sum_univ_five]
  show axT 0 _ + (axT 1 _ + (axT 2 _ + (axT 3 _ + (axT 4 _ + 0)))) = _
  rw [add_zero, add_assoc, add_assoc, add_assoc]
  rfl

theorem tallyL_ringDue (d : Dev nD) : ∀ n s, s + n = 30 → tallyL (ringDue d n s)
    = (∑ t ∈ Finset.Ico s 31, recvT t (right d)) + (∑ j ∈ Finset.Ico s 29, creditT j (left d)) + ∑ k, axT k (partner k d)
  | 0, s, h => by
    obtain rfl : s = 30 := h
    rw [sum_head (by decide), show Finset.Ico (30 + 1) 31 = ∅ from rfl, show Finset.Ico 30 29 = ∅ from rfl, Finset.sum_empty, Finset.sum_empty,
      add_zero, add_zero, ← tallyL_axDue]
    rfl
  | n + 1, s, h => by
    have hc : tallyL (creditDue s d) + ∑ j ∈ Finset.Ico (s + 1) 29, creditT j (left d) = ∑ j ∈ Finset.Ico s 29, creditT j (left d) := by
      unfold creditDue
      by_cases h28 : s ≤ 28
      · rw [if_pos h28, sum_head (show s < 29 by omega)]
        exact congrArg (· + _) (add_zero _)
      · rw [if_neg h28, Finset.Ico_eq_empty (by omega), Finset.Ico_eq_empty (by omega), Finset.sum_empty]
        exact zero_add _
    rw [sum_head (show s < 31 by omega), ← hc]
    show recvT s (right d) + tallyL (creditDue s d ++ ringDue d n (s + 1)) = _
    rw [tallyL_append, tallyL_ringDue d n (s + 1) (by omega)]
    abel

/-- What device `d` owes, and what device `c` is owed. -/
theorem tallyL_allDue (d : Dev nD) : tallyL (allDue d) = barT (left d) + barT (right d)
    + (∑ t ∈ Finset.Ico 0 31, recvT t (right d)) + (∑ j ∈ Finset.Ico 0 29, creditT j (left d)) + ∑ k, axT k (partner k d) := by
  show barT (left d) + (barT (right d) + tallyL (ringDue d 30 0)) = _
  rw [tallyL_ringDue d 30 0 rfl]
  abel

def owedTo (c : Dev nD) : CellTallies nD τ sig ℕ := tallyAt (cell c .bar) 1 2
    + ((∑ t ∈ Finset.Ico 0 31, recvT t c) + ((∑ j ∈ Finset.Ico 0 29, creditT j c) + ∑ k, axT k c))

theorem owed_all : ∑ d, tallyL (allDue d) = ∑ c, owedTo c := by
  have h2 (c : Dev nD) : (tallyAt (cell c .bar) 1 2 : CellTallies nD τ sig ℕ) = barT c + barT c := (tallyAt_add _ 1 1 1).symm
  unfold owedTo
  simp only [tallyL_allDue, h2, Finset.sum_add_distrib]
  have e1 : ∑ d, barT (left d) = ∑ c, barT c := Equiv.sum_comp leftE barT
  have e2 : ∑ d, barT (right d) = ∑ c, barT c := Equiv.sum_comp rightE barT
  have e3 : ∑ d, ∑ t ∈ Finset.Ico 0 31, recvT t (right d) = ∑ c, ∑ t ∈ Finset.Ico 0 31, recvT t c :=
    Equiv.sum_comp rightE (fun c => ∑ t ∈ Finset.Ico 0 31, recvT t c)
  have e4 : ∑ d, ∑ j ∈ Finset.Ico 0 29, creditT j (left d) = ∑ c, ∑ j ∈ Finset.Ico 0 29, creditT j c :=
    Equiv.sum_comp leftE (fun c => ∑ j ∈ Finset.Ico 0 29, creditT j c)
  have e5 : ∑ d, ∑ k, axT k (partner k d) = ∑ c, ∑ k, axT k c := by
    rw [Finset.sum_comm, Finset.sum_comm (f := fun c k => axT k c)]
    exact Finset.sum_congr rfl fun k _ => Equiv.sum_comp (partnerE k) (axT k)
  rw [e1, e2, e3, e4, e5]
  abel

theorem owedTo_own (c : Dev nD) (g : GSem nD τ sig) (h : owedTo c g ≠ 0) : g.1 = (c : Thread nD τ) := by
  by_contra hg
  have hz (k : CellK) (i n : ℕ) : (tallyAt (cell c k) i n : CellTallies nD τ sig ℕ) g = 0 :=
    tallyAt_ne_cell (fun e => hg (congrArg Prod.fst e)) i n
  apply h
  unfold owedTo
  simp only [Pi.add_apply, Finset.sum_apply, recvT, creditT, axT, hz, Finset.sum_const_zero, add_zero]

/-! ## The rights put together -/

/-- The credits a device waits with. -/
def creds (d : Dev nD) : sProp 𝕄 :=
  iprop(cred (tallyAt (cell d .bar) 1 2) ∗ (bigSep (Finset.Ico 0 31) fun s => cred (recvT s d)) ∗ (bigSep (Finset.Ico 0 29) fun j => cred (creditT j d))
    ∗ bigSep Finset.univ fun k => cred (axT k d))

omit [FloatOps F] in
theorem creds_of (d : Dev nD) : (Pipeline.launchCred (fun d => tallyL (allDue d)) d : sProp 𝕄) ⊢ creds d := by
  rw [Pipeline.launchCred_of_sum _ owedTo owed_all owedTo_own d]
  unfold owedTo creds
  refine (cred_add _ _).1.trans (sep_mono_right ((cred_add _ _).1.trans ?_))
  rw [Pipeline.cred_finsetSum]
  refine sep_mono_right ((cred_add _ _).1.trans ?_)
  rw [Pipeline.cred_finsetSum, Pipeline.cred_finsetSum]

omit [FloatOps F] in
theorem steps_of (n : ℕ) (Φ : ℕ → sProp 𝕄) : (bigSep Finset.univ fun s : Fin n => Φ s.val) = bigSep (Finset.Ico 0 n) Φ := by
  rw [Ring.bigSep_fin_eq_range n (fun s : Fin n => Φ s.val) Φ (fun _ _ => rfl), Finset.range_eq_Ico]

theorem tokens_of (d : Dev nD) : iprop(dutyRights d ∗ writeRights d ∗ creds d) ⊢ (tokens d : sProp 𝕄) := by
  have hs (s : ℕ) : iprop(writeTok ES (right d, Sum.inl (par s)) (s / 2 + 1)
      ∗ dutyTok ER (cell d (.send (par s))) (s / 2) 0 ∗ dutyTok ER (cell (right d) (.recv (par s))) (s / 2) 0 ∗ cred (recvT s d)) ⊢ (spend s d : sProp 𝕄) := .rfl
  have hk (k : Fin 5) : iprop(writeTok ES (partner k d, Sum.inr k) 1
      ∗ dutyTok ER (cell d (.axs k)) 0 0 ∗ dutyTok ER (cell (partner k d) (.axr k)) 0 0 ∗ cred (axT k d)) ⊢ (axTok k d : sProp 𝕄) := .rfl
  have hss : iprop((bigSep (Finset.Ico 0 31) fun s => writeTok ES (right d, Sum.inl (par s)) (s / 2 + 1))
      ∗ (bigSep (Finset.Ico 0 31) fun s => dutyTok ER (cell d (.send (par s))) (s / 2) 0)
      ∗ (bigSep (Finset.Ico 0 31) fun s => dutyTok ER (cell (right d) (.recv (par s))) (s / 2) 0)
      ∗ (bigSep (Finset.Ico 0 31) fun s => cred (recvT s d))) ⊢ (bigSep (Finset.Ico 0 31) fun s => spend s d : sProp 𝕄) := by
    rw [← bigSep_sep', ← bigSep_sep', ← bigSep_sep']
    exact bigSep_mono fun s _ => hs s
  have hkk : iprop((bigSep Finset.univ fun k : Fin 5 => writeTok ES (partner k d, Sum.inr k) 1)
      ∗ (bigSep Finset.univ fun k : Fin 5 => dutyTok ER (cell d (.axs k)) 0 0)
      ∗ (bigSep Finset.univ fun k : Fin 5 => dutyTok ER (cell (partner k d) (.axr k)) 0 0)
      ∗ (bigSep Finset.univ fun k : Fin 5 => cred (axT k d))) ⊢ (bigSep Finset.univ fun k => axTok k d : sProp 𝕄) := by
    rw [← bigSep_sep', ← bigSep_sep', ← bigSep_sep']
    exact bigSep_mono fun k _ => hk k
  unfold dutyRights writeRights creds tokens
  rw [steps_of 31 (fun s => (dutyTok ER (cell d (.send (par s))) (s / 2) 0 : sProp 𝕄)),
    steps_of 31 (fun s => (dutyTok ER (cell (right d) (.recv (par s))) (s / 2) 0 : sProp 𝕄)),
    steps_of 29 (fun j => (dutyTok ER (cell (left d) .credit) 0 j : sProp 𝕄)),
    steps_of 31 (fun s => (writeTok ES (right d, Sum.inl (par s)) (s / 2 + 1) : sProp 𝕄))]
  iintro ⟨⟨Hb0, Hb1, Hs, Hr, Hg, Ha, Ha'⟩, ⟨Hw, Hw'⟩, Hcb, Hcr, Hcc, Hca⟩
  isplitl [Hb1]; · iexact Hb1
  isplitl [Hb0]; · iexact Hb0
  isplitl [Hcb]; · iexact Hcb
  isplitl [Hs Hr Hw Hcr]
  · iapply hss
    isplitl [Hw]; · iexact Hw
    isplitl [Hs]; · iexact Hs
    isplitl [Hr]; · iexact Hr
    iexact Hcr
  isplitl [Hg]; · iexact Hg
  isplitl [Hcc]; · iexact Hcc
  iapply hkk
  isplitl [Hw']; · iexact Hw'
  isplitl [Ha]; · iexact Ha
  isplitl [Ha']; · iexact Ha'
  iexact Hca

end Cert.KernelIdeal.Ring

end
-- ==== Proof.Launch.lean ====
/-
  The launch: from any memory with its counters at zero every device's body runs from what it is dealt, and the whole run ends
  with each device's result computed, the operands unchanged and the counters at zero.
-/
module

public import proofs.«01_k».proof.Proof.Rights
public import proofs.«01_k».proof.Proof.Gen.KernelIdeal.Points
public import Idealize.ShloMosaic.Lib.Pipeline.CollectiveSegs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.TalkSites (tallyL tallyL_pos tallyL_append)
open Idealize.ShloMosaic.SiteBlocks (L lv mem_L' mayWait_of)
open Cert.KernelIdeal.Gen

open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

theorem N_one : cfg0.N = 1 := by decide
def t₀ : Fin cfg0.N := ⟨0, by rw [N_one]; decide⟩
theorem only_point (t : Fin cfg0.N) : t = t₀ := by obtain ⟨t, ht⟩ := t; have := N_one; simp only [t₀, Fin.mk.injEq]; omega

/-! ## The stages of a device -/

/-- Before the body: what it was dealt, its credits, the levels and its scratch buffers. -/
def start (d : Dev nD) : sProp 𝕄 := iprop(share m d ∗ creds d ∗ levAts (L 200) lv)
def entry (d : Dev nD) : sProp 𝕄 := iprop(start m d ∗ scratches d)
/-- After it: its scratch buffers and its counters at zero. -/
def leave (d : Dev nD) : sProp 𝕄 := iprop(scratches d ∗ counters d)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xIn m c
    | ⟨1, _⟩ => wIn m c
    | ⟨2, _⟩ => result m c
    | ⟨_ + 3, h⟩ => absurd h (by show ¬ _ + 3 < 3; omega)
  Φ t := match t with
    | ⟨0, _⟩ => entry m c
    | ⟨_ + 1, _⟩ => leave c
  q _ := fullShare
  owed t := match t with
    | ⟨0, _⟩ => tallyL (allDue c)
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (c : Thread nD τ) (Memref.whole b) fullShare X : sProp 𝕄) = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(entry m c ∗ (dats m ρ 0 c).owesAt 0 t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(leave c ∗ (dats m ρ 0 c).owesAt 0 t₀.succ ∗ stg c cc0_stg0_0 (xIn m c) ∗ stg c cc0_stg1_0 (wIn m c) ∗ stg c cc0_stg2_0 (result m c))

theorem fetch_x (t : Fin cfg0.N) : (cfg0.win (0 : Fin 3)).fetch t = true := by rw [only_point t]; rfl
theorem fetch_w (t : Fin cfg0.N) : (cfg0.win (1 : Fin 3)).fetch t = true := by rw [only_point t]; rfl

theorem before_x (c : Dev nD) : ∀ d, (dats m ρ 0 c).before (0 : Fin 3) t₀ d = xIn m c := fun d => by
  unfold Dat.before; rw [if_pos (fetch_x t₀)]; rfl
theorem before_w (c : Dev nD) : ∀ d, (dats m ρ 0 c).before (1 : Fin 3) t₀ d = wIn m c := fun d => by
  unfold Dat.before; rw [if_pos (fetch_w t₀)]; rfl

theorem sound_body (c : Dev nD) : bodyPre m ρ c ⊢ wp frame (wpE (defs₀ (F := F)) 𝒱₀ (c : Thread nD τ) none) Set.univ program (fun _ => bodyPost m ρ c) := by
  unfold bodyPre entry start share
  iintro ⟨⟨⟨⟨%K, %J, #Hcom, Hd⟩, Hcr, #Hlev⟩, Hscr⟩, Ho, ⟨%d0, %g0, %hg0, Hx⟩, ⟨%d1, %g1, %hg1, Hw⟩, ⟨%d2, %g2, %hg2, Hout⟩⟩
  rw [before_x] at hg0
  rw [before_w] at hg1
  subst hg0 hg1
  unfold Dat.owesAt Pipeline.owesWithin
  icases Ho with ⟨%W, %hW, Ho⟩
  rw [show (dats m ρ 0 c).owed t₀.castSucc = tallyL (allDue c) from rfl]
  unfold dealt
  icases Hd with ⟨Hp, Hr, Hdr, Hwr⟩
  have hsh : iprop(common m K J ∗ levAts (L 200) lv) ⊢ shared m K J := by
    unfold common shared
    iintro ⟨⟨H1, H2, H3⟩, H4⟩
    isplitl [H1]; · iexact H1
    isplitl [H2]; · iexact H2
    isplitl [H3]; · iexact H3
    iexact H4
  ihave #HS := hsh $$ []
  · isplitr; · iexact Hcom
    iexact Hlev
  ihave Ht := (tokens_of (F := F) c) $$ [Hdr Hwr Hcr]
  · isplitl [Hdr]; · iexact Hdr
    isplitl [Hwr]; · iexact Hwr
    iexact Hcr
  iapply (wp_program (m := m) (K := K) (J := J) c W) $$ [Ho Ht Hr Hp Hx Hw Hout Hscr]
  · isplitr; · iexact HS
    isplitl [Ho]; · iexact Ho
    isplitl [Ht]; · iexact Ht
    isplitl [Hr]; · iexact Hr
    isplitl [Hp]; · iexact Hp
    isplitl [Hx]; · (unfold xPts; iexact Hx)
    isplitl [Hw]; · (unfold wPts; iexact Hw)
    isplitl [Hout]; · iexists _; iexact Hout
    iexact Hscr
  iintro ⟨⟨%W', Ho⟩, Hx, Hw, Hout, Hscr, Hz⟩
  unfold bodyPost leave xPts wPts oPts Dat.owesAt Pipeline.owesWithin
  rw [show (dats m ρ 0 c).owed t₀.succ = 0 from rfl]
  isplitl [Hscr Hz]
  · isplitl [Hscr]; · iexact Hscr
    iexact Hz
  isplitl [Ho]
  · iexists W'
    isplitr; · ipureintro; exact fun _ _ => Or.inl trivial
    iexact Ho
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 40000 in
theorem body_obligation (c : Dev nD) : BodyObligation (dats (F := F) m ρ 0 c) (defs₀ (F := F)) 𝒱₀ 0 Set.univ := fun t => by
  rw [only_point t]
  rw [bigSep_W, bigSep_W]
  simp only [owns_whole_eq]
  show bodyPre m ρ c ⊢ wp frame (wpE (defs₀ (F := F)) 𝒱₀ (c : Thread nD τ) none) Set.univ (bodyAt0 (F := F) t0_0) (fun _ => bodyPost m ρ c)
  rw [body_eq]
  exact sound_body m ρ c

/-! ## The launch -/

/-- The kernel's own cells: all but the barrier. -/
def ownAt (i : Fin 15) : CellK := cells.get (i.castLE (show 15 ≤ cells.length by decide))
abbrev osem (i : Fin 15) : SemLoc sig := csem (ownAt i)

theorem ownSemFacts : Pipeline.OwnSemFacts cfg0.spec osem := by decide

theorem share_eq (c : Dev nD) (w : Fin cfg0.W) : (dats m ρ 0 c).share w = fullShare := by unfold Dat.share; split <;> rfl

theorem unscopedSems0_eq (c : Dev nD) : (unscopedSems0 c : sProp 𝕄) = semVal (cell c .bar) 0 := by
  unfold unscopedSems0; rw [bigSep_eq_bigSepL_of_eq [SemLoc.reg barS] (by decide) (by decide)]; rfl

theorem ownAt_inj : Function.Injective ownAt := by decide

theorem counters_eq (c : Dev nD) :
    (counters c : sProp 𝕄) = iprop(semVal (cell c .bar) 0 ∗ Pipeline.ownSems0 (Ix := ℕ) (Name := ℕ) (U := UU) (Lvl := ℕ) (Val := Elt F) (τ := τ) osem c) := by
  have hu : (Finset.univ : Finset CellK) = insert CellK.bar (Finset.univ.map ⟨ownAt, ownAt_inj⟩) := by decide
  unfold counters
  rw [hu, bigSep_insert (by decide), bigSep_map]
  rfl

/-- The rights are made on device 0. -/
def minted (c : Dev nD) : sProp 𝕄 := if c = 0 then mint else iprop(emp)

theorem minted_all : (mint : sProp 𝕄) ⊢ bigSep Finset.univ fun c => minted c := by
  have h0 : (bigSep (Finset.univ.erase (0 : Dev nD)) fun c => (minted c : sProp 𝕄)) = iprop(emp) := by
    rw [bigSep_congr (fun c hc => show minted c = iprop(emp) from if_neg (Finset.ne_of_mem_erase hc)), ]
    exact BI.bigSep_emp_const _
  rw [show (Finset.univ : Finset (Dev nD)) = insert 0 (Finset.univ.erase 0) by decide, bigSep_insert (by decide), h0]
  rw [show minted (F := F) 0 = mint from if_pos rfl]
  have h : (mint : sProp 𝕄) ⊢ iprop(mint ∗ emp) := by
    iintro H; isplitl [H]; · iexact H
    iempintro
  exact h

theorem minted_back : (bigSep Finset.univ fun c => minted c) ⊢ (mint : sProp 𝕄) := by
  have h : (minted 0 : sProp 𝕄) = mint := if_pos rfl
  rw [← h]
  exact bigSep_elim (Finset.mem_univ (0 : Dev nD))

def u₀ : UU := (initOf (Pipeline.cells cfgs cellOf_inj) (Pipeline.launchToks cfgs cellOf_inj), (initOf ringCells ringToks, initSlots Finset.univ 16))

theorem mint_of : (BI.own (embR (initOf ringCells ringToks, initSlots Finset.univ 16)) : sProp 𝕄) ⊢ mint :=
  own_pair_emb (embR : Emb UB 𝕄) (initOf ringCells ringToks) (initSlots Finset.univ 16)

theorem glob : (bigSep Finset.univ fun c => iprop(Pipeline.ownSems0 (Ix := ℕ) (Name := ℕ) (U := UU) (Lvl := ℕ) (Val := Elt F) (τ := τ) osem c ∗ unscopedSems0 c ∗ minted c) : sProp 𝕄)
    ⊢ |={Set.univ}=> bigSep Finset.univ fun c => share m c := by
  rw [bigSep_sep', bigSep_sep']
  iintro ⟨Ho, Hu, Hm⟩
  ihave Hm := (minted_back (F := F)) $$ Hm
  iapply (deal_all m)
  isplitr [Hm]
  · rw [bigSep_congr fun c _ => counters_eq c, bigSep_sep']
    isplitl [Hu]
    · rw [← bigSep_congr (s := (Finset.univ : Finset (Dev nD))) fun c _ => unscopedSems0_eq (F := F) c]; iexact Hu
    iexact Ho
  iexact Hm

theorem start_intro (c : Dev nD) :
    iprop(Pipeline.unscopedRestP Pipeline.Prefetch.none cfg0.spec c (fun b => m ((c : Thread nD τ).loc b)) ∗ levAts (L 200) lv
        ∗ Pipeline.launchCred (fun d => tallyL (allDue d)) c ∗ prngReg c (ρ c) ∗ share m c)
      ⊢ |={Set.univ}=> iprop(start m c ∗ emp) := by
  iintro ⟨-, Hlev, Hcr, -, HG⟩
  ihave Hc := (creds_of (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = entry m c from rfl, scopedRest0_eq]
  unfold entry scratches
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = leave c from rfl, scopedRest0_eq, unscopedSems0_eq]
  unfold leave
  rw [counters_eq]
  unfold scratches
  iintro ⟨Hr, HzB, Hz⟩
  isplitl [HzB]; · iexact HzB
  isplitl [Hz]; · iexact Hz
  iexact Hr

theorem over_allDue (d : Dev nD) : Over 0 (allDue d) :=
  (((over_ringDue d 30 0 rfl).mono (by decide)).cons ⟨rfl, by show 0 < 1; decide, by show 1 < 200; decide⟩).cons ⟨rfl, by show 0 < 1; decide, by show 1 < 200; decide⟩

theorem waits (c : Dev nD) : (levAts (L 200) lv : sProp 𝕄) ⊢ Pipeline.cellsWaits cfgs (dats m ρ) 0 0 c :=
  Pipeline.cellsWaits_intro cfgs (dats m ρ) 0 0 c fun w s t => by
    rcases t with ⟨_ | _, ht⟩
    · exact mayWait c _ (over_allDue c) (by decide)
    · exact mayWait c _ (l := []) (fun x hx => absurd hx List.not_mem_nil) (by decide)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem L_of_ne (g : GSem nD τ sig) (h : g.1.2 ≠ .tc) : L 200 g = ∅ := if_neg h

set_option maxRecDepth 40000 in
/-- For any float values, from any memory with its counters at zero, every weakly fair execution of the kernel on its mesh ends,
    and every final state has each device's window arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => tallyL (allDue d)) (howed₀ := fun _ => rfl) (howedN := fun _ => rfl)
    (L := L 200) (lv := lv) (hL := L_of_ne) (hwaits := waits m ρ)
    (G := fun c => minted c) (G' := fun c => share m c) (u₀ := u₀)
    (hu₀ := by
      unfold u₀
      iintro Hu
      ihave H := (ownU_pair _ _) $$ Hu
      icases H with ⟨HP, HX⟩
      imodintro
      isplitl [HP]; · iexact HP
      iapply minted_all
      iapply mint_of $$ HX)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring

end
-- ==== Proof.Run.lean ====
/-
  What the run leaves in each array: the operands unchanged, device `c`'s result array at `result m c`, every counter at zero.
-/
module

public import proofs.«01_k».proof.Proof.Launch
public import Idealize.ShloMosaic.Lib.Pipeline.ValueKit

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.TalkSites (tallyL tallyL_pos tallyL_append)
open Idealize.ShloMosaic.SiteBlocks (L lv mem_L' mayWait_of)
open Cert.KernelIdeal.Gen

variable {F : FTy → Type} [FloatOps F]

variable (m : (ℓ : Loc nD τ sig) → Buf (Elt F) ℓ) (ρ : Dev nD → PrngReg)

theorem final_x (c : Dev nD) : finalA m ρ c (0 : Fin 3) = m ((c : Thread nD τ).loc main_arg0) := (dats (F := F) m ρ 0 c).arrAt_in (0 : Fin 3) rfl _
theorem final_w (c : Dev nD) : finalA m ρ c (1 : Fin 3) = m ((c : Thread nD τ).loc main_arg1) := (dats (F := F) m ρ 0 c).arrAt_in (1 : Fin 3) rfl _
theorem final_o (c : Dev nD) : finalA m ρ c (2 : Fin 3) = result m c := by
  unfold finalA
  refine (dats (F := F) m ρ 0 c).arrAt_eq_of_after_last (2 : Fin 3) t0_0 (by decide +kernel) _ fun j => ?_
  rfl

/-- For any float values, from any memory with its counters at zero, every weakly fair execution of the kernel on its mesh ends
    with every device's operands unchanged, its result array at `result`, and every counter at zero. -/
theorem run : θ_run defs (onTc (τ := τ) (main (F := F))) (s₀ m ρ) (fun r =>
    (∀ c : Dev nD, r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (final_o m ρ c), (h.1 c (0 : Fin 3)).trans (final_x m ρ c),
    (h.1 c (1 : Fin 3)).trans (final_w m ρ c)⟩, h.2⟩) (run_main m ρ)

end Cert.KernelIdeal.Ring

end
-- ==== Proof.Product.lean ====
/-
  A device's rows of the product, over the extended reals: what the ring of 32 steps adds up to.

  `part m d q` is device `d`'s product for chunk `q`: the chunk's rows of its columns of the left operand, times its rows of
  the right operand. After step `s` the value a device sends is the sum of the parts, for one chunk, of itself and of the
  `s` devices to its left (`sent_eq_sum`). The last step closes the ring: a device's rows are the sum of every device's part
  for that device's own chunk (`rows_eq_sum`).
-/
module

public import proofs.«01_k».proof.Proof.Values
public import Idealize.ShloMosaic.Lib.MatmulPlain
public import Idealize.ShloMosaic.Lib.ValueIdx
public import Idealize.ShloMosaic.Lib.Pipeline.Value
public import Idealize.ShloMosaic.PureOps.Ideal.Laws

@[expose] public section

noncomputable section

namespace Cert.KernelIdeal.Ring

open Idealize.ShloMosaic Idealize.ShloMosaic.TcCoe Idealize.SL.Sem Idealize.ShloMosaic.ValueIdx
open Cert.KernelIdeal.Gen
open scoped BigOperators

/-! ## Chunks of rows -/

/-- The chunk that device `c` works on at step `s`, counting the opening product as step 0. -/
def chunk (c : Dev nD) (s : ℕ) : Fin 32 := ⟨(c.val + 31 * (s + 1)) % 32, Nat.mod_lt _ (by decide)⟩

theorem chunk_left (c : Dev nD) (s : ℕ) : chunk (left c) s = chunk c (s + 1) := by
  apply Fin.ext; simp only [chunk, left_val]; omega
/-- The last chunk is the device's own. -/
theorem chunk_last (c : Dev nD) : chunk c 31 = c := by
  have := c.isLt; apply Fin.ext; simp only [chunk, nD] at *; omega

/-- Row `i` of chunk `q`, among all rows. -/
def rowOf (q : Fin 32) (i : Fin 128) : Fin 4096 := ⟨q.val * 128 + i.val, by have := q.isLt; have := i.isLt; omega⟩

theorem off1_eq : ∀ c : Dev nD, k0_off1 c = ![(chunk c 0).val * 128, 0] := by decide +kernel
theorem off2_eq : ∀ (c : Dev nD) (s : Fin 31), k0_off2 c (BitVec.ofNat 32 s.val) = ![(chunk c (s.val + 1)).val * 128, 0] := by
  decide +kernel

/-! ## One device's part of one chunk -/

variable (m : (ℓ : Loc nD τ sig) → Buf (Elt Ideal) ℓ)

/-- The device's columns of the left operand and its rows of the right operand, as matrices. -/
def xAt (d : Dev nD) : FVec Ideal S4096x128 .bf16 := xIn m d
def wAt (d : Dev nD) : FVec Ideal S128x8192 .bf16 := wIn m d

/-- Device `d`'s part of entry (i, j) of chunk `q`. -/
def part (d : Dev nD) (q : Fin 32) (i : Fin 128) (j : Fin 8192) : EReal :=
  ∑ k : Fin 128, (xAt m d (ix2 (rowOf q i) k) : EReal) * wAt m d (ix2 k j)

theorem kept_eq (d : Dev nD) : kept m d = wAt m d := by
  unfold kept k0_pay2
  simp only [shapeCast_self]
  rfl

/-- Rows of the left operand read at a chunk's offset are that chunk's rows. -/
theorem read_chunk (d : Dev nD) (q : Fin 32) (off : Fin 2 → ℕ) (inb : ∀ a, off a + S128x128.size a ≤ S4096x128.size a)
    (h : off = ![q.val * 128, 0]) (i k : Fin 128) :
    (xM.view.readAt (Elt Ideal) (Rect.unit (s := S4096x128) off S128x128.size inb).toLoadRect (xIn m d)
      : FVec Ideal S128x128 .bf16) (ix2 i k) = xAt m d (ix2 (rowOf q i) k) := by
  subst h
  refine congrArg (xAt m d) ?_
  funext a
  apply Fin.ext
  match a with
  | ⟨0, _⟩ => show q.val * 128 + 1 * i.val = q.val * 128 + i.val; omega
  | ⟨1, _⟩ => show 0 + 1 * k.val = k.val; omega

/-- The kernel's product of a chunk, onto zero, is the device's part. -/
theorem product_apply (x : FVec Ideal S128x128 .bf16) (d : Dev nD) (q : Fin 32)
    (hx : ∀ i k, x (ix2 i k) = xAt m d (ix2 (rowOf q i) k)) (i : Fin 128) (j : Fin 8192) :
    k0_pay4 x (kept m d) (ix2 i j) = part m d q i j := by
  unfold k0_pay4
  rw [kept_eq]
  simp only [shapeCast_self]
  show FloatOps.matmul (DotDims.plain 128 128 8192) none x (wAt m d) (constant S128x8192 .f32 0x00000000#32) (ix2 i j) = _
  rw [Ideal.matmul_plain_apply, constant_apply]
  show Ideal.ofBits .f32 0x00000000#32 + _ = _
  rw [Ideal.ofBits_zero_f32, zero_add]
  exact Finset.sum_congr rfl fun k _ => by rw [hx]

theorem prod_apply (s : ℕ) (hs : s < 31) (c : Dev nD) (i : Fin 128) (j : Fin 8192) :
    prod m s c (ix2 i j) = part m c (chunk c (s + 1)) i j := by
  have h : (stepIx s).val = s := Nat.mod_eq_of_lt hs
  refine product_apply m _ c _ (fun i k => read_chunk m c _ _ _ ?_ i k) i j
  rw [off2_eq, h]

/-! ## The ring -/

/-- A sent value, as a matrix. -/
def sentAt (s : ℕ) (c : Dev nD) : FVec Ideal S128x8192 .bf16 := shapeCast S128x8192 (sent m s c) shapeCasts_S1x128x8192_S128x8192

theorem sentAt_zero (c : Dev nD) (i : Fin 128) (j : Fin 8192) : sentAt m 0 c (ix2 i j) = part m c (chunk c 0) i j := by
  unfold sentAt sent k0_pay3
  rw [shapeCast_shapeCast]
  exact product_apply m _ c _ (fun i k => read_chunk m c _ _ _ (off1_eq c) i k) i j

theorem sentAt_succ (s : ℕ) (c : Dev nD) (i : Fin 128) (j : Fin 8192) :
    (sentAt m (s + 1) c (ix2 i j) : EReal) = (prod m s c (ix2 i j) : EReal) + sentAt m s (left c) (ix2 i j) := by
  conv_lhs => unfold sentAt sent k0_pay5
  rw [shapeCast_shapeCast]
  rfl

/-- The value sent at step `s` is the sum of the parts of the sender and of the `s` devices to its left. -/
theorem sent_eq_sum (s : ℕ) (hs : s ≤ 30) (c : Dev nD) (i : Fin 128) (j : Fin 8192) :
    (sentAt m s c (ix2 i j) : EReal) = ∑ t ∈ Finset.range (s + 1), part m (back t c) (chunk c s) i j := by
  induction s generalizing c with
  | zero => rw [sentAt_zero, Finset.sum_range_one, back_zero]
  | succ s ih =>
    rw [sentAt_succ, ih (by omega), prod_apply m s (by omega), Finset.sum_range_succ' _ (s + 1), back_zero, add_comm, chunk_left]
    simp only [back_succ]

/-- Every device is exactly one number of places to the left. -/
theorem back_bijective (c : Dev nD) : Function.Bijective (fun t : Fin 32 => back t.val c) := by
  refine (Fintype.bijective_iff_surjective_and_card _).2 ⟨fun e => ?_, rfl⟩
  obtain ⟨t, ht, h⟩ := exists_back c e
  exact ⟨⟨t, by omega⟩, h⟩

/-- A device's rows are the sum of all devices' parts of its chunk. -/
theorem rows_eq_sum (c : Dev nD) (i : Fin 128) (j : Fin 8192) :
    (rows m c (ix2 i j) : EReal) = ∑ d : Dev nD, part m d c i j := by
  have h : (rows m c (ix2 i j) : EReal) = (prod m 30 c (ix2 i j) : EReal) + sentAt m 30 (left c) (ix2 i j) := rfl
  rw [h, sent_eq_sum m 30 le_rfl, prod_apply m 30 (by decide), chunk_left]
  have e : (∑ t ∈ Finset.range 32, part m (back t c) (chunk c 31) i j) = ∑ d : Dev nD, part m d c i j := by
    rw [chunk_last, Finset.sum_range]
    exact Fintype.sum_bijective _ (back_bijective c) _ _ fun _ => rfl
  rw [← e, Finset.sum_range_succ' _ 31, back_zero, add_comm]
  simp only [back_succ]

end Cert.KernelIdeal.Ring

end
-- ==== Proof.Maximum.lean ====
/-
  The largest magnitude, over the extended reals: what the five exchanges along the axes of the hypercube find.

  A maximum is described by the bounds it satisfies: it is at most `b` when every value it was taken over is. After `k`
  exchanges the value a device holds is the maximum over the devices whose number agrees with its own from binary digit `k`
  on (`most_le_iff`); after five that is every device (`amax_le_iff`).
-/
module

public import proofs.«01_k».proof.Proof.Product
public import Idealize.ShloMosaic.PureOps.Reduce
public import Idealize.ShloMosaic.Lib.ValueLayout

@[expose] public section

noncomputable section

namespace Cert.KernelIdeal.Ring

open Idealize.ShloMosaic Idealize.ShloMosaic.TcCoe Idealize.SL.Sem Idealize.ShloMosaic.ValueIdx
open Cert.KernelIdeal.Gen

/-! ## A maximum over a whole tile -/

theorem ofBits_neg_inf : (FloatOps.ofBits .f32 0xFF800000#32 : Ideal .f32) = (⊥ : EReal) := by
  show Ideal.ofBits .f32 0xFF800000#32 = _
  simp [Ideal.ofBits, Ideal.ieee]

/-- A fold of the maximum from −∞ is at most `b` when every value is. -/
theorem fold_le_iff {ι : Type} (S : Finset ι) (f : ι → EReal) (b : EReal) :
    S.fold (FloatOps.maximumf (F := Ideal) (φ := .f32)) (FloatOps.ofBits .f32 0xFF800000#32 : Ideal .f32) f ≤ b ↔ ∀ i ∈ S, f i ≤ b := by
  rw [ofBits_neg_inf]
  have h : (S.fold max (⊥ : EReal) f ≤ b) ↔ ∀ i ∈ S, f i ≤ b := by
    rw [Finset.fold_max_le]; exact and_iff_right bot_le
  exact h

/-- The maximum of a tile down to one number, as the kernel takes it. -/
theorem tileMax_le_iff {s : Shape} {axes : List (Fin s.rank)} (v : FVec Ideal s .f32) (h : s.Reduces axes S1) (b : EReal)
    (hφ : FKind.Formats .f32) (hacc : 0xFF800000#32 = FKind.maximumf.neutral .f32 hφ) :
    (extractAt ![0, 0, 0] (shapeCast S1x1x1 (multiReduction .maximumf axes S1 v 0xFF800000#32 h hφ hacc) shapeCasts_S1_S1x1x1)
      inpos_S1x1x1_p0_0_0 : EReal) ≤ b ↔ ∀ i, (v i : EReal) ≤ b := by
  have one : ∀ p q : S1.Idx, p = q := fun p q => funext fun a => Fin.ext (by
    have := (p a).isLt; have := (q a).isLt
    match a with
    | ⟨0, _⟩ => simp [S1] at *; omega)
  show (multiReduction .maximumf axes S1 v 0xFF800000#32 h hφ hacc _ : EReal) ≤ b ↔ _
  rw [multiReduction_maximumf_eq_fold, fold_le_iff]
  exact ⟨fun H i => H i (Finset.mem_filter.2 ⟨Finset.mem_univ _, one _ _⟩), fun H i _ => H i⟩

/-- Every element of a cast array is one of the original's, and the other way round. -/
theorem forall_shapeCast {s t : Shape} (v : FVec Ideal s .f32) (h : s.ShapeCasts t) (b : EReal) :
    (∀ i, (shapeCast t v h i : EReal) ≤ b) ↔ ∀ i, (v i : EReal) ≤ b := by
  unfold shapeCast
  exact ⟨fun H i => by have := H ((Shape.reshapeEquiv h).symm i); rwa [Equiv.apply_symm_apply] at this, fun H i => H _⟩

/-! ## The exchanges -/

variable (m : (ℓ : Loc nD τ sig) → Buf (Elt Ideal) ℓ)

/-- A device starts from the largest magnitude among its rows. -/
theorem most_zero_le_iff (c : Dev nD) (b : EReal) :
    (most m 0 c : EReal) ≤ b ↔ ∀ i, max (rows m c i : EReal) (-(rows m c i : EReal)) ≤ b := by
  unfold most k0_pay64
  exact (tileMax_le_iff _ reduces_S1x128x8192_S1 b (.inl rfl) rfl).trans (forall_shapeCast _ _ b)

/-- An exchange takes the larger of the device's value and its partner's. -/
theorem exchange_le_iff (v w : Ideal .f32) (b : EReal) :
    (k0_pay69 v (spread w) : EReal) ≤ b ↔ (v : EReal) ≤ b ∧ (w : EReal) ≤ b := by
  unfold k0_pay69
  refine (max_le_iff (a := (v : EReal))).trans (and_congr_right fun _ => ?_)
  refine (tileMax_le_iff _ reduces_S1x8x128_S1 b (.inl rfl) rfl).trans ?_
  rw [forall_shapeCast, forall_shapeCast, spread, forall_shapeCast]
  exact ⟨fun H => H (ix2 (0 : Fin 8) (0 : Fin 128)), fun H _ => H⟩

/-- Devices that agree from digit `k + 1` on are those that agree from digit `k` on with the device or with its partner. -/
theorem agree_succ : ∀ (k : Fin 5) (c d : Dev nD), d.val / 2 ^ (k.val + 1) = c.val / 2 ^ (k.val + 1)
    ↔ d.val / 2 ^ k.val = c.val / 2 ^ k.val ∨ d.val / 2 ^ k.val = (partner k c).val / 2 ^ k.val := by
  have h : ∀ (k : Fin 5) (c d : Fin 32), d.val / 2 ^ (k.val + 1) = c.val / 2 ^ (k.val + 1)
      ↔ d.val / 2 ^ k.val = c.val / 2 ^ k.val ∨ d.val / 2 ^ k.val = (c.val ^^^ 2 ^ k.val) / 2 ^ k.val := by decide +kernel
  intro k c d
  rw [partner_val]
  exact h k c d

/-- After `k` exchanges a device's value is the maximum over the devices that agree with it from digit `k` on. -/
theorem most_le_iff (k : ℕ) (hk : k ≤ 5) (c : Dev nD) (b : EReal) :
    (most m k c : EReal) ≤ b ↔ ∀ d : Dev nD, d.val / 2 ^ k = c.val / 2 ^ k → (most m 0 d : EReal) ≤ b := by
  induction k generalizing c with
  | zero =>
    constructor
    · intro h d e
      have : d = c := Fin.ext (by simpa using e)
      rwa [this]
    · intro h; exact h c rfl
  | succ k ih =>
    have e := most_succ m ⟨k, by omega⟩ c
    rw [e, exchange_le_iff, ih (by omega), ih (by omega)]
    constructor
    · rintro ⟨h₁, h₂⟩ d hd
      rcases (agree_succ ⟨k, by omega⟩ c d).1 hd with h | h
      · exact h₁ d h
      · exact h₂ d h
    · intro h
      exact ⟨fun d hd => h d ((agree_succ ⟨k, by omega⟩ c d).2 (.inl hd)),
        fun d hd => h d ((agree_succ ⟨k, by omega⟩ c d).2 (.inr hd))⟩

/-- After the fifth the value is the largest magnitude among all devices' rows. -/
theorem amax_le_iff (c : Dev nD) (b : EReal) :
    (most m 5 c : EReal) ≤ b ↔ ∀ (d : Dev nD) (i : S128x8192.Idx), max (rows m d i : EReal) (-(rows m d i : EReal)) ≤ b := by
  rw [most_le_iff m 5 le_rfl]
  refine forall_congr' fun d => ?_
  rw [most_zero_le_iff]
  refine ⟨fun h => h ?_, fun h _ => h⟩
  have hd := d.isLt; have hc := c.isLt
  simp only [nD] at *
  omega

end Cert.KernelIdeal.Ring

end
-- ==== Proof.Bridge.lean ====
/-
  The kernel's result over the extended reals is the reference's, block by block.

  With the operands dealt out as blocks of two whole matrices, a device's rows are its block of the whole product
  (`rows_eq_block`); the largest magnitude found by the exchanges is that of the whole product (`amax_eq`); and the kernel and
  the reference quantise alike (`quantised`). So a device's result is its block of the reference's (`result_eq_block`).
-/
module

public import proofs.«01_k».proof.Proof.Maximum
public import proofs.«01_k».proof.Proof.Gen.ReferenceIdeal
public import Idealize.ShloMosaic.Lib.Layout
public import Idealize.ShloMosaic.Lib.StackMember

@[expose] public section

noncomputable section

namespace Cert.KernelIdeal.Ring

open Idealize.ShloMosaic Idealize.ShloMosaic.TcCoe Idealize.SL.Sem Idealize.ShloMosaic.ValueIdx
open Cert.KernelIdeal.Gen
open scoped BigOperators

/-! ## The reference, in three parts -/

/-- The shapes of the whole matrices. -/
abbrev WX : Shape := ⟨2, ![4096, 4096]⟩
abbrev WY : Shape := ⟨2, ![4096, 8192]⟩

/-- The whole product, and the largest magnitude in it, as the reference computes them. -/
def wholeProduct (A : FVec Ideal WX .bf16) (B : FVec Ideal WY .bf16) : FVec Ideal WY .f32 :=
  Host.dotGeneral Cert.ReferenceIdeal.dot_S4096x4096_S4096x8192_S4096x8192_1_0_0_1_n_n none A B
def wholeMax (y : FVec Ideal WY .f32) : FVec Ideal Cert.ReferenceIdeal.S_ .f32 :=
  Host.reduce FloatOps.maximumf (Host.absf y) (constant Cert.ReferenceIdeal.S_ .f32 0xFF800000#32)
    Cert.ReferenceIdeal.Gen.reducesTo_S4096x8192_S_d0_1 Cert.ReferenceIdeal.Gen.h_S_

/-- One number quantised to the 255 steps of `a / 127` and back. -/
def quantised (y a : Ideal .f32) : Ideal .f32 :=
  FloatOps.mulf (FloatOps.minimumf (FloatOps.ofBits .f32 0x42FE0000#32) (FloatOps.maximumf (FloatOps.ofBits .f32 0xC2FE0000#32)
    (FloatOps.roundeven (FloatOps.divf y (FloatOps.divf a (FloatOps.ofBits .f32 0x42FE0000#32))))))
    (FloatOps.divf a (FloatOps.ofBits .f32 0x42FE0000#32))

/-- The reference's result for the whole matrices. -/
def wholeResult (A : FVec Ideal WX .bf16) (B : FVec Ideal WY .bf16) : FVec Ideal WY .f32 := fun i =>
  quantised (wholeProduct A B i) (wholeMax (wholeProduct A B) ix0)

/-- What the reference's operations compose to is `wholeResult`. -/
theorem wholeResult_eq (A : FVec Ideal WX .bf16) (B : FVec Ideal WY .bf16)
    (h : Cert.ReferenceIdeal.S_.BroadcastsInDim WY (![] : Fin 0 → Fin WY.rank)) :
    mulf (minimumf (broadcastInDim WY ![] h (id (constant Cert.ReferenceIdeal.S_ .f32 0x42FE0000#32)))
        (maximumf (broadcastInDim WY ![] h (id (constant Cert.ReferenceIdeal.S_ .f32 0xC2FE0000#32)))
          (Host.roundeven (Host.divf (wholeProduct A B) (broadcastInDim WY ![] h
            (Host.divf (wholeMax (wholeProduct A B)) (constant Cert.ReferenceIdeal.S_ .f32 0x42FE0000#32)))))))
      (broadcastInDim WY ![] h (Host.divf (wholeMax (wholeProduct A B)) (constant Cert.ReferenceIdeal.S_ .f32 0x42FE0000#32)))
      = wholeResult A B := by
  funext i
  have e : ∀ j : Cert.ReferenceIdeal.S_.Idx, j = ix0 := fun j => funext fun a => a.elim0
  exact congrArg (fun j => quantised (wholeProduct A B i) (wholeMax (wholeProduct A B) j)) (e _)

theorem wholeProduct_apply (A : FVec Ideal WX .bf16) (B : FVec Ideal WY .bf16) (i : Fin 4096) (j : Fin 8192) :
    (wholeProduct A B (ix2 i j) : EReal) = ∑ K : Fin 4096, (A (ix2 i K) : EReal) * B (ix2 K j) :=
  StackMember.dotGeneral_plain_apply none A B i j

theorem wholeMax_le_iff (y : FVec Ideal WY .f32) (j : Cert.ReferenceIdeal.S_.Idx) (b : EReal) :
    (wholeMax y j : EReal) ≤ b ↔ ∀ i, max (y i : EReal) (-(y i : EReal)) ≤ b := by
  unfold wholeMax
  rw [Host.reduce_eq_fold]
  refine (fold_le_iff _ _ b).trans ?_
  exact ⟨fun H i => H i (Finset.mem_filter.2 ⟨Finset.mem_univ _, funext fun a => a.elim0⟩), fun H i _ => H i⟩

/-! ## Blocks -/

/-- A sum over all 4096 positions, chunk by chunk. -/
theorem sum_chunks (f : Fin 4096 → EReal) : ∑ d : Fin 32, ∑ k : Fin 128, f (rowOf d k) = ∑ K : Fin 4096, f K := by
  rw [← Fintype.sum_prod_type' fun d k => f (rowOf d k)]
  refine Fintype.sum_equiv (finProdFinEquiv (m := 32) (n := 128)) _ _ fun p => congrArg f (Fin.ext ?_)
  show p.1.val * 128 + p.2.val = p.2.val + 128 * p.1.val
  omega

theorem tilesX : Layout.Tiles ⟨2, ![4096, 128]⟩ WX 1 32 := by decide
theorem tilesY : Layout.Tiles ⟨2, ![128, 8192]⟩ WY 0 32 := by decide

/-- Entry (i, k) of a block of columns, and entry (i, j) of a block of rows. -/
theorem idx_cols (d : Fin 32) (i : Fin 4096) (k : Fin 128) : tilesX.idx d (ix2 i k) = ix2 i (rowOf d k) := by
  funext a; apply Fin.ext
  match a with
  | ⟨0, _⟩ => rfl
  | ⟨1, _⟩ => rfl
theorem idx_rows (d : Fin 32) (i : Fin 128) (j : Fin 8192) : tilesY.idx d (ix2 i j) = ix2 (rowOf d i) j := by
  funext a; apply Fin.ext
  match a with
  | ⟨0, _⟩ => rfl
  | ⟨1, _⟩ => rfl

/-- Every entry of the whole matrix is in some device's block. -/
theorem exists_block (I : WY.Idx) : ∃ (d : Fin 32) (i : (⟨2, ![128, 8192]⟩ : Shape).Idx), tilesY.idx d i = I := by
  obtain ⟨r, j, rfl⟩ : ∃ (r : Fin 4096) (j : Fin 8192), I = ix2 r j := ⟨I 0, I 1, eq_ix2 I⟩
  have hr := r.isLt
  refine ⟨⟨r.val / 128, by omega⟩, ix2 ⟨r.val % 128, by omega⟩ j, ?_⟩
  rw [idx_rows]
  refine congrArg (ix2 · j) (Fin.ext ?_)
  show r.val / 128 * 128 + r.val % 128 = r.val
  omega

/-! ## The kernel's result -/

variable (m : (ℓ : Loc nD τ sig) → Buf (Elt Ideal) ℓ) (A : FVec Ideal WX .bf16) (B : FVec Ideal WY .bf16)

/-- The operands are the blocks of `A`'s columns and of `B`'s rows. -/
def Dealt : Prop := ∀ c : Dev nD,
  m ((c : Thread nD τ).loc main_arg0) = Layout.block ⟨2, ![4096, 128]⟩ WX 1 32 c A tilesX
  ∧ m ((c : Thread nD τ).loc main_arg1) = Layout.block ⟨2, ![128, 8192]⟩ WY 0 32 c B tilesY

variable {m A B} (h : Dealt m A B)

include h

theorem x_eq (c : Dev nD) (i : Fin 4096) (k : Fin 128) : xAt m c (ix2 i k) = A (ix2 i (rowOf c k)) := by
  have e : xAt m c = m ((c : Thread nD τ).loc main_arg0) := by
    exact Memref.read_access_unit_zero (Elt Ideal) main_arg0 (off := fun a => 0 * main_arg0.ty.shape.size a)
      (funext fun a => Nat.zero_mul _) (fun a => by rw [Nat.zero_mul, Nat.zero_add]) (m ((c : Thread nD τ).loc main_arg0))
  rw [e, (h c).1, ← idx_cols]
  rfl

theorem w_eq (c : Dev nD) (k : Fin 128) (j : Fin 8192) : wAt m c (ix2 k j) = B (ix2 (rowOf c k) j) := by
  have e : wAt m c = m ((c : Thread nD τ).loc main_arg1) := by
    exact Memref.read_access_unit_zero (Elt Ideal) main_arg1 (off := fun a => 0 * main_arg1.ty.shape.size a)
      (funext fun a => Nat.zero_mul _) (fun a => by rw [Nat.zero_mul, Nat.zero_add]) (m ((c : Thread nD τ).loc main_arg1))
  rw [e, (h c).2, ← idx_rows]
  rfl

/-- A device's rows are its block of the whole product. -/
theorem rows_eq_block (c : Dev nD) (i : S128x8192.Idx) : rows m c i = wholeProduct A B (tilesY.idx c i) := by
  obtain ⟨r, j, rfl⟩ : ∃ (r : Fin 128) (j : Fin 8192), i = ix2 r j := ⟨i 0, i 1, eq_ix2 i⟩
  have e := rows_eq_sum m c r j
  unfold part at e
  simp only [x_eq h, w_eq h] at e
  rw [idx_rows]
  refine e.trans ((sum_chunks fun K => (A (ix2 (rowOf c r) K) : EReal) * B (ix2 K j)).trans ?_)
  exact (wholeProduct_apply A B (rowOf c r) j).symm

/-- The largest magnitude the exchanges find is that of the whole product. -/
theorem amax_eq (c : Dev nD) (j : Cert.ReferenceIdeal.S_.Idx) : most m 5 c = wholeMax (wholeProduct A B) j := by
  refine eq_of_forall_ge_iff (α := EReal) fun b => ?_
  rw [amax_le_iff, wholeMax_le_iff]
  constructor
  · intro H I
    obtain ⟨d, i, rfl⟩ := exists_block I
    rw [← rows_eq_block h d i]
    exact H d i
  · intro H d i
    rw [rows_eq_block h d i]
    exact H _

/-- A device's result is its block of the reference's result. -/
theorem result_eq_block (c : Dev nD) : result m c = Layout.block ⟨2, ![128, 8192]⟩ WY 0 32 c (wholeResult A B) tilesY := by
  funext i
  have e : result m c i = quantised (rows m c i) (most m 5 c) := rfl
  rw [e, rows_eq_block h, amax_eq h c ix0]
  rfl

end Cert.KernelIdeal.Ring

end
-- ==== Proof.lean ====
/-
  The certificate: each claim from the run of its program. The kernel's run is proved once, for any float values, in
  proof/Proof/Run.lean; each of the two kernel frames is that run with the result's value dropped.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Bridge
public import Idealize.ShloMosaic.Adequacy
public import Idealize.ShloMosaic.Init

@[expose] public section

noncomputable section

namespace Cert.Proof

open Idealize.ShloMosaic Idealize.SL.Sem Cert.Kernel

/-- The kernel over the extended reals ends, its operands unchanged and every counter at zero. -/
theorem frame_kernelIdeal : Cert.quiescent_KernelIdeal := fun m ρ _ =>
  (θ_run Cert.KernelIdeal.defs _ _).mono (fun _ h => ⟨fun c => (h.1 c).2, h.2⟩) (Cert.KernelIdeal.Ring.run (F := Ideal) m ρ)

/-- The two printed body tables are the same. -/
theorem bodies_eq {F : FTy → Type} [FloatOps F] : Cert.KernelIdeal.defs₀ (F := F) = Cert.Kernel.defs₀ (F := F) := by
  unfold Cert.Kernel.defs₀ Cert.KernelIdeal.defs₀
  refine congrArg Defs.onTc ?_
  funext l x
  obtain ⟨l, hl⟩ := l
  match l, hl with
  | 0, _ => rfl

theorem defs_eq {F : FTy → Type} [FloatOps F] : Cert.KernelIdeal.defs (F := F) = Cert.Kernel.defs (F := F) :=
  congrArg (Pipeline.defs Cert.KernelIdeal.pcfgs) bodies_eq

/-- So does the kernel as printed: the same program text at the bit-exact values. -/
theorem frame_kernel : Cert.quiescent_Kernel := fun m ρ _ => by
  have h := (θ_run Cert.KernelIdeal.defs (onTc (τ := Cert.KernelIdeal.τ) (Cert.KernelIdeal.main (F := Bits))) _).mono (fun _ h => (⟨fun c => (h.1 c).2, h.2⟩ : (∀ c : Dev Cert.KernelIdeal.nD, _ ∧ _) ∧ _)) (Cert.KernelIdeal.Ring.run (F := Bits) m ρ)
  rw [defs_eq] at h
  exact h

/-- The reference over the extended reals ends, its operands unchanged; it has no semaphores. -/
theorem frame_reference : Cert.quiescent_ReferenceIdeal := fun m ρ _ =>
  (θ_run Cert.ReferenceIdeal.defs _ _).mono (fun _ h => ⟨fun c => (h c).2, sem_eq_zero_of_no_sems rfl _⟩) (Cert.ReferenceIdeal.Value.run (F := Ideal) m ρ)

/-- The kernel and the reference compute the same function over the extended reals: each device's result is its block of
    rows of the reference's. -/
theorem algebraic : Cert.algebraic_KernelIdeal_ReferenceIdeal := fun m g m' g' _ h => by
  refine ⟨Cert.KernelIdeal.Ring.wholeResult (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ r c => ⟨(r.1 c).1.trans (Cert.KernelIdeal.Ring.result_eq_block h c), (r.1 c).2⟩)
      (Cert.KernelIdeal.Ring.run (F := Ideal) m g)
  · refine (θ_run Cert.ReferenceIdeal.defs _ _).mono (fun _ r => ⟨(r 0).1.trans ?_, (r 0).2⟩)
      (Cert.ReferenceIdeal.Value.run (F := Ideal) m' g')
    exact Cert.KernelIdeal.Ring.wholeResult_eq _ _ _

theorem claim : Cert.Claim := ⟨Cert.Kernel.Gen.facts, Cert.KernelIdeal.Gen.facts, Cert.ReferenceIdeal.Gen.facts, by
  refine ⟨frame_kernel, frame_kernelIdeal, frame_reference, trivial, algebraic⟩⟩

end Cert.Proof

end
